-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_8) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x16x512 : Shape := ⟨3, ![512, 16, 512]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S1x16x512 : Shape := ⟨3, ![1, 16, 512]⟩
abbrev S64x16x512 : Shape := ⟨3, ![64, 16, 512]⟩
abbrev S64x16x2048 : Shape := ⟨3, ![64, 16, 2048]⟩
abbrev S16x512 : Shape := ⟨2, ![16, 512]⟩
abbrev S1024x512 : Shape := ⟨2, ![1024, 512]⟩
abbrev S1024x2048 : Shape := ⟨2, ![1024, 2048]⟩
abbrev S1x1x2048 : Shape := ⟨3, ![1, 1, 2048]⟩
abbrev S1x16x2048 : Shape := ⟨3, ![1, 16, 2048]⟩
abbrev S16x2048 : Shape := ⟨2, ![16, 2048]⟩

abbrev nBuf : Space → Nat
  | .hbm => 15
  | .vmem => 12
  | .smem => 0
  | _ => 0

abbrev bufTy : (tb : Table) → Fin (tcTables nBuf tb) → BufTy
  | .hbm, ⟨0, _⟩ => ⟨S512x16x512, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S2048, .f32⟩
  | .hbm, ⟨5, _⟩ => ⟨S512x16x512, .bf16⟩
  | .hbm, ⟨6, _⟩ => ⟨S512x2048, .f32⟩
  | .hbm, ⟨7, _⟩ => ⟨S512x2048, .bf16⟩
  | .hbm, ⟨8, _⟩ => ⟨S512x2048, .f32⟩
  | .hbm, ⟨9, _⟩ => ⟨S512x2048, .fp8e4m3⟩
  | .hbm, ⟨10, _⟩ => ⟨S2048, .f32⟩
  | .hbm, ⟨11, _⟩ => ⟨S1x2048, .f32⟩
  | .hbm, ⟨12, _⟩ => ⟨S512x16x512, .f32⟩
  | .hbm, ⟨13, _⟩ => ⟨S1x16x512, .f32⟩
  | .hbm, ⟨14, _⟩ => ⟨S1x16x512, .f32⟩
  | .local _ .vmem, ⟨0, _⟩ => ⟨S64x16x512, .bf16⟩
  | .local _ .vmem, ⟨1, _⟩ => ⟨S64x16x512, .bf16⟩
  | .local _ .vmem, ⟨2, _⟩ => ⟨S512x2048, .bf16⟩
  | .local _ .vmem, ⟨3, _⟩ => ⟨S512x2048, .fp8e4m3⟩
  | .local _ .vmem, ⟨4, _⟩ => ⟨S1x2048, .f32⟩
  | .local _ .vmem, ⟨5, _⟩ => ⟨S64x16x512, .f32⟩
  | .local _ .vmem, ⟨6, _⟩ => ⟨S64x16x512, .f32⟩
  | .local _ .vmem, ⟨7, _⟩ => ⟨S1x16x512, .f32⟩
  | .local _ .vmem, ⟨8, _⟩ => ⟨S1x16x512, .f32⟩
  | .local _ .vmem, ⟨9, _⟩ => ⟨S64x16x2048, .f32⟩
  | .local _ .vmem, ⟨10, _⟩ => ⟨S16x512, .f32⟩
  | .local _ .vmem, ⟨11, _⟩ => ⟨S16x512, .f32⟩
  | _, _ => ⟨S512x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_14 : BitVec 32 := 0#32
  let c64_i32 : BitVec 32 := 64#32
  let v20 : BitVec 32 := Scalar.addi c0_i32_14 c64_i32
  let c1_i32 : BitVec 32 := 1#32
  ⟨c0_i32_14, v20, c1_i32⟩
def k0_off1 (k0_t1 : Fin k0_t1_loop.trips) : Fin 3 → Nat :=
  let c0_i32_14 : BitVec 32 := 0#32
  let c1_i32 : BitVec 32 := 1#32
  let arg11 : BitVec 32 := Scf.iv c0_i32_14 c1_i32 k0_t1
  let v31 : Index := Scalar.indexCast arg11
  let c0_21 : Index := 0#32
  let c0_22 : Index := 0#32
  ![v31.toNat, 0, 0]
def k0_off2 (k0_t1 : Fin k0_t1_loop.trips) : Fin 3 → Nat :=
  let c0_i32_14 : BitVec 32 := 0#32
  let c1_i32 : BitVec 32 := 1#32
  let arg11 : BitVec 32 := Scf.iv c0_i32_14 c1_i32 k0_t1
  let v69 : Index := Scalar.indexCast arg11
  let c0_35 : Index := 0#32
  let c0_36 : Index := 0#32
  ![v69.toNat, 0, 0]
def k0_cond2 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_20 : BitVec 32 := 0#32
  let v30 : BitVec 1 := Scalar.cmpi .ne v29 c0_i32_20
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S512x16x512 : Shape := ⟨3, ![512, 16, 512]⟩
abbrev S2048x512 : Shape := ⟨2, ![2048, 512]⟩
abbrev S2048 : Shape := ⟨1, ![2048]⟩
abbrev S_ : Shape := ⟨0, ![]⟩
abbrev S16x512 : Shape := ⟨2, ![16, 512]⟩
abbrev S1x16x512 : Shape := ⟨3, ![1, 16, 512]⟩
abbrev S512x2048 : Shape := ⟨2, ![512, 2048]⟩
abbrev S16x2048 : Shape := ⟨2, ![16, 2048]⟩
abbrev S1x2048 : Shape := ⟨2, ![1, 2048]⟩

abbrev nBuf : Space → Nat
  | .hbm => 80
  | .vmem => 0
  | .smem => 0
  | _ => 0

abbrev bufTy : (tb : Table) → Fin (tcTables nBuf tb) → BufTy
  | .hbm, ⟨0, _⟩ => ⟨S512x16x512, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S_, .f32⟩
  | .hbm, ⟨10, _⟩ => ⟨S512x16x512, .f32⟩
  | .hbm, ⟨11, _⟩ => ⟨S_, .i32⟩
  | .hbm, ⟨12, _⟩ => ⟨S512x16x512, .f32⟩
  | .hbm, ⟨13, _⟩ => ⟨S2048x512, .f32⟩
  | .hbm, ⟨14, _⟩ => ⟨S2048x512, .f32⟩
  | .hbm, ⟨15, _⟩ => ⟨S2048, .f32⟩
  | .hbm, ⟨16, _⟩ => ⟨S2048, .f32⟩
  | .hbm, ⟨17, _⟩ => ⟨S_, .i32⟩
  | .hbm, ⟨18, _⟩ => ⟨S16x512, .f32⟩
  | .hbm, ⟨19, _⟩ => ⟨S16x512, .f32⟩
  | .hbm, ⟨20, _⟩ => ⟨S512x16x512, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x16x512, .f32⟩
  | .hbm, ⟨26, _⟩ => ⟨S16x512, .f32⟩
  | .hbm, ⟨27, _⟩ => ⟨S512x2048, .f32⟩
  | .hbm, ⟨28, _⟩ => ⟨S16x2048, .f32⟩
  | .hbm, ⟨29, _⟩ => ⟨S512x2048, .f32⟩
  | .hbm, ⟨30, _⟩ => ⟨S16x2048, .f32⟩
  | .hbm, ⟨31, _⟩ => ⟨S16x2048, .f32⟩
  | .hbm, ⟨32, _⟩ => ⟨S1x2048, .f32⟩
  | .hbm, ⟨33, _⟩ => ⟨S16x2048, .f32⟩
  | .hbm, ⟨34, _⟩ => ⟨S16x2048, .f32⟩
  | .hbm, ⟨35, _⟩ => ⟨S1x2048, .f32⟩
  | .hbm, ⟨36, _⟩ => ⟨S16x2048, .f32⟩
  | .hbm, ⟨37, _⟩ => ⟨S16x2048, .f32⟩
  | .hbm, ⟨38, _⟩ => ⟨S16x512, .f32⟩
  | .hbm, ⟨39, _⟩ => ⟨S16x512, .f32⟩
  | .hbm, ⟨40, _⟩ => ⟨S16x512, .f32⟩
  | .hbm, ⟨41, _⟩ => ⟨S16x512, .f32⟩
  | .hbm, ⟨42, _⟩ => ⟨S16x512, .f32⟩
  | .hbm, ⟨43, _⟩ => ⟨S16x512, .f32⟩
  | .hbm, ⟨44, _⟩ => ⟨S_, .f32⟩
  | .hbm, ⟨45, _⟩ => ⟨S16x512, .f32⟩
  | .hbm, ⟨46, _⟩ => ⟨S16x512, .f32⟩
  | .hbm, ⟨47, _⟩ => ⟨S_, .f32⟩
  | .hbm, ⟨48, _⟩ => ⟨S16x512, .f32⟩
  | .hbm, ⟨49, _⟩ => ⟨S16x512, .f32⟩
  | .hbm, ⟨50, _⟩ => ⟨S16x512, .f32⟩
  | .hbm, ⟨51, _⟩ => ⟨S16x512, .f32⟩
  | .hbm, ⟨52, _⟩ => ⟨S_, .f32⟩
  | .hbm, ⟨53, _⟩ => ⟨S16x512, .f32⟩
  | .hbm, ⟨54, _⟩ => ⟨S16x512, .f32⟩
  | .hbm, ⟨55, _⟩ => ⟨S_, .f32⟩
  | .hbm, ⟨56, _⟩ => ⟨S16x512, .f32⟩
  | .hbm, ⟨57, _⟩ => ⟨S16x512, .f32⟩
  | .hbm, ⟨58, _⟩ => ⟨S16x512, .f32⟩
  | .hbm, ⟨59, _⟩ => ⟨S16x512, .f32⟩
  | .hbm, ⟨60, _⟩ => ⟨S16x512, .f32⟩
  | .hbm, ⟨61, _⟩ => ⟨S_, .f32⟩
  | .hbm, ⟨62, _⟩ => ⟨S16x512, .f32⟩
  | .hbm, ⟨63, _⟩ => ⟨S16x512, .f32⟩
  | .hbm, ⟨64, _⟩ => ⟨S_, .f32⟩
  | .hbm, ⟨65, _⟩ => ⟨S16x512, .f32⟩
  | .hbm, ⟨66, _⟩ => ⟨S16x512, .f32⟩
  | .hbm, ⟨67, _⟩ => ⟨S16x512, .f32⟩
  | .hbm, ⟨68, _⟩ => ⟨S16x512, .f32⟩
  | .hbm, ⟨69, _⟩ => ⟨S16x512, .f32⟩
  | .hbm, ⟨70, _⟩ => ⟨S16x512, .f32⟩
  | .hbm, ⟨71, _⟩ => ⟨S16x512, .f32⟩
  | .hbm, ⟨72, _⟩ => ⟨S1x16x512, .f32⟩
  | .hbm, ⟨73, _⟩ => ⟨S_, .i32⟩
  | .hbm, ⟨74, _⟩ => ⟨S_, .i32⟩
  | .hbm, ⟨75, _⟩ => ⟨S512x16x512, .f32⟩
  | .hbm, ⟨76, _⟩ => ⟨S_, .i32⟩
  | .hbm, ⟨77, _⟩ => ⟨S_, .i32⟩
  | .hbm, ⟨78, _⟩ => ⟨S1x16x512, .f32⟩
  | .hbm, ⟨79, _⟩ => ⟨S1x16x512, .f32⟩
  | _, _ => ⟨S512x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_c : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev main_v3_8 : Ref sig .tc := ⟨.hbm, 20, rfl⟩
abbrev main_while0c_c_10 : Ref sig .tc := ⟨.hbm, 21, rfl⟩
abbrev main_while0c_v6 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v6 : Ref sig .tc := ⟨.hbm, 26, rfl⟩
abbrev main_while0b_v7 : Ref sig .tc := ⟨.hbm, 27, rfl⟩
abbrev main_while0b_v8 : Ref sig .tc := ⟨.hbm, 28, rfl⟩
abbrev main_while0b_v9 : Ref sig .tc := ⟨.hbm, 29, rfl⟩
abbrev main_while0b_v10 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_cst_10 : Ref sig .tc := ⟨.hbm, 44, rfl⟩
abbrev main_while0b_v24 : Ref sig .tc := ⟨.hbm, 45, rfl⟩
abbrev main_while0b_v25 : Ref sig .tc := ⟨.hbm, 46, rfl⟩
abbrev main_while0b_cst_11 : Ref sig .tc := ⟨.hbm, 47, rfl⟩
abbrev main_while0b_v26 : Ref sig .tc := ⟨.hbm, 48, rfl⟩
abbrev main_while0b_v27 : Ref sig .tc := ⟨.hbm, 49, rfl⟩
abbrev main_while0b_v28 : Ref sig .tc := ⟨.hbm, 50, rfl⟩
abbrev main_while0b_v29 : Ref sig .tc := ⟨.hbm, 51, rfl⟩
abbrev main_while0b_cst_12 : Ref sig .tc := ⟨.hbm, 52, rfl⟩
abbrev main_while0b_v30 : Ref sig .tc := ⟨.hbm, 53, rfl⟩
abbrev main_while0b_v31 : Ref sig .tc := ⟨.hbm, 54, rfl⟩
abbrev main_while0b_cst_13 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_v36 : Ref sig .tc := ⟨.hbm, 60, rfl⟩
abbrev main_while0b_cst_14 : Ref sig .tc := ⟨.hbm, 61, rfl⟩
abbrev main_while0b_v37 : Ref sig .tc := ⟨.hbm, 62, rfl⟩
abbrev main_while0b_v38 : Ref sig .tc := ⟨.hbm, 63, rfl⟩
abbrev main_while0b_cst_15 : Ref sig .tc := ⟨.hbm, 64, rfl⟩
abbrev main_while0b_v39 : Ref sig .tc := ⟨.hbm, 65, rfl⟩
abbrev main_while0b_v40 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_call1_v0 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_v46 : Ref sig .tc := ⟨.hbm, 75, rfl⟩
abbrev main_while0b_c_16 : Ref sig .tc := ⟨.hbm, 76, rfl⟩
abbrev main_while0b_v47 : Ref sig .tc := ⟨.hbm, 77, rfl⟩
abbrev main_v4 : Ref sig .tc := ⟨.hbm, 78, rfl⟩
abbrev main_v5 : Ref sig .tc := ⟨.hbm, 79, rfl⟩

abbrev nD : Nat := 1
abbrev τ : Topo := Topo.v7x

variable {F : FTy → Type} [FloatOps F]

abbrev main_while0_count : Scf.Loop 32 := ⟨0#32, 512#32, 1#32⟩
-- ==== Proof.Loop.lean ====
module

public import proofs.«01_k».proof.Proof.Gen.KernelIdeal.Loops
public import Idealize.ShloMosaic.Lib.VecWindow
public import Idealize.ShloMosaic.Lib.WritesUnit

/-!
# One block of 64 time steps: the loop of the kernel's body

The body's counted loop carries the hidden state and the cell state through the 64 time steps of a block. This module
names the step as a function of what the loop reads (the block's input projections and the recurrent weights), the
state before every trip, and the rows the trips before it stored, and gives the loop its invariant in those words.
-/

@[expose] public section

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The hidden state and the cell state of the 16 sequences. -/
abbrev Carry (F : FTy → Type) : Type := Vec F S16x512 .f32 × Vec F S16x512 .f32

/-- Time step `k`'s slab of a block's input projections. -/
def slab (xw : Vec F S64x16x2048 .f32) (k : Fin k0_t1_loop.trips) : Vec F S1x16x2048 .f32 :=
  VecWindow.window xw (k0_off1 k) S1x16x2048.size (k0_off1_inb k)

/-- One time step: the new hidden state and the new cell state, of the recurrent weights, the step's input projections and the state before it. -/
def step (whh : Vec F S512x2048 .fp8e4m3) (xw : Vec F S64x16x2048 .f32) (k : Fin k0_t1_loop.trips) (s : Carry F) : Carry F :=
  (k0_pay5 s.1 s.2 (slab xw k) whh, k0_pay4 s.1 s.2 (slab xw k) whh)

/-- The state before trip `k` of a block entered at `s`; past the last trip it stays. -/
def states (whh : Vec F S512x2048 .fp8e4m3) (xw : Vec F S64x16x2048 .f32) (s : Carry F) : ℕ → Carry F
  | 0 => s
  | k + 1 => if h : k < k0_t1_loop.trips then step whh xw ⟨k, h⟩ (states whh xw s k) else states whh xw s k

/-- What the trips before trip `k` store into the block of outputs, the last one first: each stores its new hidden state as its own row. -/
def stored (whh : Vec F S512x2048 .fp8e4m3) (xw : Vec F S64x16x2048 .f32) (s : Carry F) : ℕ → List (View.Piece (Elt F) S64x16x512 .f32)
  | 0 => []
  | k + 1 =>
    if h : k < k0_t1_loop.trips then
      ⟨Rect.unit (s := S64x16x512) (k0_off2 ⟨k, h⟩) S1x16x512.size (k0_off2_inb ⟨k, h⟩),
        k0_pay6 (states whh xw s k).1 (states whh xw s k).2 (slab xw ⟨k, h⟩) whh⟩ :: stored whh xw s k
    else stored whh xw s k

/-- The state after a trip is one step on from the state before it. -/
theorem states_succ (whh : Vec F S512x2048 .fp8e4m3) (xw : Vec F S64x16x2048 .f32) (s : Carry F) (k : Fin k0_t1_loop.trips) :
    states whh xw s (k.val + 1) = step whh xw k (states whh xw s k.val) := by
  rw [states.eq_2]; exact dif_pos k.isLt

/-- The pieces stored by the end of a trip are its own row in front of those stored before it. -/
theorem stored_succ (whh : Vec F S512x2048 .fp8e4m3) (xw : Vec F S64x16x2048 .f32) (s : Carry F) (k : Fin k0_t1_loop.trips) :
    stored whh xw s (k.val + 1)
      = ⟨Rect.unit (s := S64x16x512) (k0_off2 k) S1x16x512.size (k0_off2_inb k),
          k0_pay6 (states whh xw s k.val).1 (states whh xw s k.val).2 (slab xw k) whh⟩ :: stored whh xw s k.val := by
  rw [stored.eq_2]; exact dif_pos k.isLt

set_option maxHeartbeats 1000000 in
/-- One trip at any carried state: from the recurrent weights, the block's projections and the output block it yields the
    next state, and stores the new hidden state as the trip's row of the output block. -/
theorem trip (𝒱 : Variants) (c : Dev nD) (bd : Option 𝒱.V) (E : Set ℕ) (i : grid0.Coords) (arg1 : Memref sig .tc .vmem S64x16x512 .bf16) (harg1 : arg1.IsWhole) (arg2 : Memref sig .tc .vmem S512x2048 .bf16) (harg2 : arg2.IsWhole) (arg3 : Memref sig .tc .vmem S512x2048 .fp8e4m3) (harg3 : arg3.IsWhole) (arg4 : Memref sig .tc .vmem S1x2048 .f32) (harg4 : arg4.IsWhole) (arg5 : Memref sig .tc .vmem S64x16x512 .f32) (harg5 : arg5.IsWhole) (arg6 : Memref sig .tc .vmem S1x16x512 .f32) (harg6 : arg6.IsWhole) (arg7 : Memref sig .tc .vmem S1x16x512 .f32) (harg7 : arg7.IsWhole) (arg8 : Memref sig .tc .vmem S64x16x2048 .f32) (harg8 : arg8.IsWhole) (arg9 : Memref sig .tc .vmem S16x512 .f32) (harg9 : arg9.IsWhole) (arg10 : Memref sig .tc .vmem S16x512 .f32) (harg10 : arg10.IsWhole)
    (X3 : BufTy.Contents (Elt F) arg3.view.ty) (X8 : BufTy.Contents (Elt F) arg8.view.ty) (k : Fin k0_t1_loop.trips)
    (s : Carry F) (f5 : BufTy.Contents (Elt F) arg5.view.ty) :
    (iprop((arg3.view.loc (c : Thread nD τ) ↦[arg3.view.set]{fullShare} X3)
        ∗ (arg8.view.loc (c : Thread nD τ) ↦[arg8.view.set]{fullShare} X8)
        ∗ (arg5.view.loc (c : Thread nD τ) ↦[arg5.view.set]{fullShare} f5)) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k s)
          (fun r => iprop(⌜r = step (arg3.view.read (Elt F) X3) (arg8.view.read (Elt F) X8) k s⌝
            ∗ (arg3.view.loc (c : Thread nD τ) ↦[arg3.view.set]{fullShare} X3)
            ∗ (arg8.view.loc (c : Thread nD τ) ↦[arg8.view.set]{fullShare} X8)
            ∗ (arg5.view.loc (c : Thread nD τ) ↦[arg5.view.set]{fullShare} (arg5.view.writes (Elt F) f5
                [⟨Rect.unit (s := S64x16x512) (k0_off2 k) S1x16x512.size (k0_off2_inb k),
                  k0_pay6 s.1 s.2 (slab (arg8.view.read (Elt F) X8) k) (arg3.view.read (Elt F) X3)⟩])))) := by
  have hk : k.val < 64 := Nat.lt_of_lt_of_le k.isLt k0_t1_abs.2.1
  unfold k0_t1_body
  iintro ⟨H3, H8, H5⟩
  sl_exec
  sl_step
  isplitr
  · ipureintro
    sl_unfold_words
    rw [View.readAt_full]
    rfl
  isplitl [H3]; · iexact H3
  isplitl [H8]; · iexact H8
  rw [View.readAt_full, View.readAt_unit arg8.view X8 (k0_off1_inb k) rfl (k0_off1_inb k)]
  iexact H5

set_option warn.classDefReducibility false in
/-- The loop by its invariant: before trip `k` the output block holds the rows of the trips before `k` over what it held,
    and the carried value is the state those trips lead to. -/
@[sl_loop] def blockLoop (𝒱 : Variants) (c : Dev nD) (bd : Option 𝒱.V) (E : Set ℕ) (i : grid0.Coords) (arg1 : Memref sig .tc .vmem S64x16x512 .bf16) (harg1 : arg1.IsWhole) (arg2 : Memref sig .tc .vmem S512x2048 .bf16) (harg2 : arg2.IsWhole) (arg3 : Memref sig .tc .vmem S512x2048 .fp8e4m3) (harg3 : arg3.IsWhole) (arg4 : Memref sig .tc .vmem S1x2048 .f32) (harg4 : arg4.IsWhole) (arg5 : Memref sig .tc .vmem S64x16x512 .f32) (harg5 : arg5.IsWhole) (arg6 : Memref sig .tc .vmem S1x16x512 .f32) (harg6 : arg6.IsWhole) (arg7 : Memref sig .tc .vmem S1x16x512 .f32) (harg7 : arg7.IsWhole) (arg8 : Memref sig .tc .vmem S64x16x2048 .f32) (harg8 : arg8.IsWhole) (arg9 : Memref sig .tc .vmem S16x512 .f32) (harg9 : arg9.IsWhole) (arg10 : Memref sig .tc .vmem S16x512 .f32) (harg10 : arg10.IsWhole)
    (X3 : BufTy.Contents (Elt F) arg3.view.ty) (X8 : BufTy.Contents (Elt F) arg8.view.ty) (G5 : BufTy.Contents (Elt F) arg5.view.ty)
    (init : Vec F S16x512 .f32 × Vec F S16x512 .f32) :
    Cert.KernelIdeal.Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 init where
  inv k s := iprop((arg3.view.loc (c : Thread nD τ) ↦[arg3.view.set]{fullShare} X3)
    ∗ (arg8.view.loc (c : Thread nD τ) ↦[arg8.view.set]{fullShare} X8)
    ∗ (∃ f, (arg5.view.loc (c : Thread nD τ) ↦[arg5.view.set]{fullShare} f)
        ∗ ⌜f = arg5.view.writes (Elt F) G5 (stored (arg3.view.read (Elt F) X3) (arg8.view.read (Elt F) X8) init k)⌝)
    ∗ ⌜s = states (arg3.view.read (Elt F) X3) (arg8.view.read (Elt F) X8) init k⌝)
  step k s := by
    iintro ⟨H3, H8, ⟨%f5, H5, %h5⟩, %hs⟩
    subst hs h5
    iapply (wp_wand_r Idealize.ShloMosaic.frame (wpE (defs₀ (F := F)) 𝒱 (c : Thread nD τ) bd) E)
    isplitl [H3 H8 H5]
    · iapply (trip 𝒱 c bd E i arg1 harg1 arg2 harg2 arg3 harg3 arg4 harg4 arg5 harg5 arg6 harg6 arg7 harg7 arg8 harg8 arg9 harg9 arg10 harg10 X3 X8 k _ _)
      isplitl [H3]; · iexact H3
      isplitl [H8]; · iexact H8
      iexact H5
    · iintro %r ⟨%hr, H3, H8, H5⟩
      isplitl [H3]; · iexact H3
      isplitl [H8]; · iexact H8
      isplitl [H5]
      · iexists _
        isplitl [H5]; · iexact H5
        ipureintro
        rw [stored_succ]; rfl
      · ipureintro
        rw [hr, states_succ]

end Cert.KernelIdeal.Lstm
-- ==== Proof.Body.lean ====
module

public import proofs.«01_k».proof.Proof.Loop
public import proofs.«01_k».proof.Proof.Gen.KernelIdeal.Frame
public import Idealize.ShloMosaic.Lib.ValueLayout

/-!
# One grid point: the kernel's body over a block of 64 time steps

What the body leaves at a grid point, as functions of the block it reads and of the state it is entered with: the block
of 64 hidden states, the state after the block in the two scratch buffers, and at the last point that same state in the
two final outputs. Three theorems run the body: at the first point, at a middle point and at the last one.
-/

@[expose] public section

noncomputable section

namespace Cert.KernelIdeal.Lstm

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's first condition: the grid point is the first one. -/
abbrev isFirst (i : grid0.Coords) : Prop :=
  Scalar.cmpi .ne (Scalar.extui (Scalar.cmpi .eq (BitVec.ofNat 32 (i 0).val) 0#32) : BitVec 32) 0#32 = 1#1

/-- The body's second condition: the grid point is the last one. -/
abbrev isLast (i : grid0.Coords) : Prop := k0_cond2 i = 1#1

/-- The state the kernel starts from: both vectors zero. -/
def start : Carry F := (k0_pay7, k0_pay8)

/-- The state after a block entered at `s`. -/
def blockEnd (x : Vec F S64x16x512 .bf16) (wih : Vec F S512x2048 .bf16) (whh : Vec F S512x2048 .fp8e4m3) (b : Vec F S1x2048 .f32)
    (s : Carry F) : Carry F :=
  states whh (k0_pay9 x wih b) s 64

/-- Where row `y 0` of a block has its element `y`, in the matrix that row is. -/
def inRow (y : S64x16x512.Idx) : S16x512.Idx := ix2 (y 1) (y 2)

/-- The same place in the row taken as a one-row block. -/
def inSlab (y : S64x16x512.Idx) : S1x16x512.Idx := ix3 0 (y 1) (y 2)

/-- The block of outputs: row `r` is the hidden state after time step `r`. -/
def blockOut (x : Vec F S64x16x512 .bf16) (wih : Vec F S512x2048 .bf16) (whh : Vec F S512x2048 .fp8e4m3) (b : Vec F S1x2048 .f32)
    (s : Carry F) : Vec F S64x16x512 .f32 :=
  fun y => (states whh (k0_pay9 x wih b) s ((y 0).val + 1)).1 (inRow y)

/-- The loop takes 64 trips. -/
theorem trips_eq : k0_t1_loop.trips = 64 := by decide +kernel

/-- The same number, of the loop's bounds as the program writes them. -/
theorem trips_lit : Scf.trips (0#32) (Scalar.addi 0#32 64#32) 1#32 = 64 := trips_eq

/-- Reading back what the trips before `k` stored: row `r < k` is the hidden state after time step `r`. -/
theorem read_stored {κ : Kind} {sp : Space} (v : View sig κ sp S64x16x512 .f32) (f : v.ty.Contents (Elt F))
    (whh : Vec F S512x2048 .fp8e4m3) (xw : Vec F S64x16x2048 .f32) (s : Carry F) (y : S64x16x512.Idx) :
    ∀ k : ℕ, k ≤ k0_t1_loop.trips → (y 0).val < k →
      v.read (Elt F) (v.writes (Elt F) f (stored whh xw s k)) y = (states whh xw s ((y 0).val + 1)).1 (inRow y)
  | 0, _, h => absurd h (Nat.not_lt_zero _)
  | k + 1, hk, h => by
    have hs := stored_succ whh xw s ⟨k, hk⟩
    have ht := states_succ whh xw s ⟨k, hk⟩
    dsimp only at hs ht
    rw [hs]
    by_cases hy : (y 0).val = k
    · refine (View.read_writes_cons_unit_of_mem (s := S64x16x512) v f (size := S1x16x512.size) (k0_off2_inb ⟨k, hk⟩) _ _ y
        (inSlab y) (k0_off2_eq ⟨k, hk⟩) (fun a => ?_)).trans ?_
      · match a with
        | ⟨0, _⟩ => show (y 0).val = k + 0; omega
        | ⟨1, _⟩ => exact (Nat.zero_add _).symm
        | ⟨2, _⟩ => exact (Nat.zero_add _).symm
      rw [hy, ht]
      exact shapeCast_ab_1ab_apply (k0_pay5 (states whh xw s k).1 (states whh xw s k).2 (slab xw ⟨k, hk⟩) whh) _ 0 (y 1) (y 2)
    · refine (View.read_writes_cons_unit_of_not_mem (s := S64x16x512) v f (size := S1x16x512.size) (k0_off2_inb ⟨k, hk⟩) _ _ y
        (k0_off2_eq ⟨k, hk⟩) 0 (Or.inl ?_)).trans ?_
      · show (y 0).val < k; omega
      exact read_stored v f whh xw s y k (Nat.le_of_succ_le hk) (by omega)

/-- So the whole block, read after the last trip, is the block of outputs. -/
theorem read_stored_all {κ : Kind} {sp : Space} (v : View sig κ sp S64x16x512 .f32) (f : v.ty.Contents (Elt F))
    (x : Vec F S64x16x512 .bf16) (wih : Vec F S512x2048 .bf16) (whh : Vec F S512x2048 .fp8e4m3) (b : Vec F S1x2048 .f32) (s : Carry F) :
    v.read (Elt F) (v.writes (Elt F) f (stored whh (k0_pay9 x wih b) s 64)) = blockOut x wih whh b s :=
  funext fun y => read_stored v f whh (k0_pay9 x wih b) s y _ trips_eq.ge (y 0).isLt

section whole

variable {κ : Kind} {sp : Space}

/-- A load of the whole input block reads what the buffer reads. -/
theorem whole_x (v : View sig κ sp S64x16x512 .bf16) (f : v.ty.Contents (Elt F)) (h) :
    v.readAt (Elt F) (Rect.unit (s := S64x16x512) ![0, 0, 0] ![64, 16, 512] h).toLoadRect f = v.read (Elt F) f :=
  View.readAt_full v f h

/-- A load of a whole weight matrix reads what the buffer reads. -/
theorem whole_wih {e : EltTy} (v : View sig κ sp S512x2048 e) (f : v.ty.Contents (Elt F)) (h) :
    v.readAt (Elt F) (Rect.unit (s := S512x2048) ![0, 0] ![512, 2048] h).toLoadRect f = v.read (Elt F) f :=
  View.readAt_full v f h

/-- A load of the whole bias row reads what the buffer reads. -/
theorem whole_b (v : View sig κ sp S1x2048 .f32) (f : v.ty.Contents (Elt F)) (h) :
    v.readAt (Elt F) (Rect.unit (s := S1x2048) ![0, 0] ![1, 2048] h).toLoadRect f = v.read (Elt F) f :=
  View.readAt_full v f h

/-- A load of a whole state vector reads what the buffer reads. -/
theorem whole_s (v : View sig κ sp S16x512 .f32) (f : v.ty.Contents (Elt F)) (h) :
    v.readAt (Elt F) (Rect.unit (s := S16x512) ![0, 0] ![16, 512] h).toLoadRect f = v.read (Elt F) f :=
  View.readAt_full v f h

/-- A store of the whole block of projections leaves the payload. -/
theorem put_xw (v : View sig κ sp S64x16x2048 .f32) (f : v.ty.Contents (Elt F)) (h) (w : S64x16x2048.Idx → Elt F .f32) (L) :
    v.read (Elt F) (v.writes (Elt F) f (⟨Rect.unit (s := S64x16x2048) ![0, 0, 0] ![64, 16, 2048] h, w⟩ :: L)) = w :=
  View.read_writes_full v f h w L

/-- A store of a whole state vector leaves the payload. -/
theorem put_s (v : View sig κ sp S16x512 .f32) (f : v.ty.Contents (Elt F)) (h) (w : S16x512.Idx → Elt F .f32) (L) :
    v.read (Elt F) (v.writes (Elt F) f (⟨Rect.unit (s := S16x512) ![0, 0] ![16, 512] h, w⟩ :: L)) = w :=
  View.read_writes_full v f h w L

/-- A load of a whole state vector after a store of the whole of it reads the payload. -/
theorem cov_s (v : View sig κ sp S16x512 .f32) (h) (w : S16x512.Idx → Elt F .f32) (h') :
    v.readCov [⟨Rect.unit (s := S16x512) ![0, 0] ![16, 512] h, w⟩] (Rect.unit (s := S16x512) ![0, 0] ![16, 512] h').toLoadRect = w :=
  View.readCov_full v h' h w []

/-- A store of a whole final output leaves the payload. -/
theorem put_out (v : View sig κ sp S1x16x512 .f32) (f : v.ty.Contents (Elt F)) (h) (w : S1x16x512.Idx → Elt F .f32) (L) :
    v.read (Elt F) (v.writes (Elt F) f (⟨Rect.unit (s := S1x16x512) ![0, 0, 0] ![1, 16, 512] h, w⟩ :: L)) = w :=
  View.read_writes_full v f h w L

/-- The hidden state stored at the end of the body is the one after the block. -/
theorem kept_h (x : Vec F S64x16x512 .bf16) (wih : Vec F S512x2048 .bf16) (whh : Vec F S512x2048 .fp8e4m3) (b : Vec F S1x2048 .f32) (s : Carry F) :
    k0_pay10 (states whh (k0_pay9 x wih b) s 64).1 = (blockEnd x wih whh b s).1 :=
  shapeCast_self _ _

/-- The cell state stored at the end of the body is the one after the block. -/
theorem kept_c (x : Vec F S64x16x512 .bf16) (wih : Vec F S512x2048 .bf16) (whh : Vec F S512x2048 .fp8e4m3) (b : Vec F S1x2048 .f32) (s : Carry F) :
    k0_pay11 (states whh (k0_pay9 x wih b) s 64).2 = (blockEnd x wih whh b s).2 :=
  shapeCast_self _ _

end whole

set_option maxHeartbeats 1000000 in
/-- A MIDDLE point: entered with state `s` in the scratch, the body leaves the block of outputs and the state after the block. -/
theorem run_middle (c : Dev nD) (i : grid0.Coords) (arg1 : Memref sig .tc .vmem S64x16x512 .bf16) (harg1 : arg1.IsWhole) (arg2 : Memref sig .tc .vmem S512x2048 .bf16) (harg2 : arg2.IsWhole) (arg3 : Memref sig .tc .vmem S512x2048 .fp8e4m3) (harg3 : arg3.IsWhole) (arg4 : Memref sig .tc .vmem S1x2048 .f32) (harg4 : arg4.IsWhole) (arg5 : Memref sig .tc .vmem S64x16x512 .f32) (harg5 : arg5.IsWhole) (arg6 : Memref sig .tc .vmem S1x16x512 .f32) (harg6 : arg6.IsWhole) (arg7 : Memref sig .tc .vmem S1x16x512 .f32) (harg7 : arg7.IsWhole) (arg8 : Memref sig .tc .vmem S64x16x2048 .f32) (harg8 : arg8.IsWhole) (arg9 : Memref sig .tc .vmem S16x512 .f32) (harg9 : arg9.IsWhole) (arg10 : Memref sig .tc .vmem S16x512 .f32) (harg10 : arg10.IsWhole) (hf : ¬isFirst i) (hl : ¬isLast i)
    (x : Vec F S64x16x512 .bf16) (wih : Vec F S512x2048 .bf16) (whh : Vec F S512x2048 .fp8e4m3) (b : Vec F S1x2048 .f32) (s : Carry F)
    (E : Set ℕ) (K : PUnit → sProp 𝕄) :
    iprop(owns (c : Thread nD τ) arg1 fullShare x ∗ owns (c : Thread nD τ) arg2 fullShare wih ∗ owns (c : Thread nD τ) arg3 fullShare whh ∗ owns (c : Thread nD τ) arg4 fullShare b
        ∗ (∃ d, owns (c : Thread nD τ) arg5 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x ∗ owns (c : Thread nD τ) arg2 fullShare wih ∗ owns (c : Thread nD τ) arg3 fullShare whh ∗ owns (c : Thread nD τ) arg4 fullShare b
            ∗ owns (c : Thread nD τ) arg5 fullShare (blockOut x wih whh b s) ∗ (∃ d, owns (c : Thread nD τ) arg8 fullShare d)
            ∗ owns (c : Thread nD τ) arg9 fullShare (blockEnd x wih whh b s).1 ∗ owns (c : Thread nD τ) arg10 fullShare (blockEnd x wih whh b s).2) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part2_eq_skeleton]
  unfold owns
  iintro ⟨⟨%f1, %h1, H1⟩, ⟨%f2, %h2, H2⟩, ⟨%f3, %h3, H3⟩, ⟨%f4, %h4, H4⟩, ⟨%d5, %f5, -, H5⟩, ⟨%d8, %f8, -, H8⟩, ⟨%f9, %h9, H9⟩, ⟨%f10, %h10, H10⟩, HK⟩
  sl_exec (disch := first | sl_exact hf | sl_exact hl)
  sl_step
  sl_unfold_words
  simp only [whole_x, whole_wih, whole_b, whole_s, put_xw, trips_lit, h1, h2, h3, h4, h9, h10]
  iapply HK
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact read_stored_all arg5.view _ x wih whh b s
  isplitl [H8]
  · iexists _; iexists _; isplitr [H8]; swap; · iexact H8
    ipureintro; exact rfl
  isplitl [H9]
  · iexists _; isplitr [H9]; swap; · iexact H9
    ipureintro; exact (put_s arg9.view _ _ _ _).trans (kept_h x wih whh b s)
  iexists _; isplitr [H10]; swap; · iexact H10
  ipureintro; exact (put_s arg10.view _ _ _ _).trans (kept_c x wih whh b s)

set_option maxHeartbeats 1000000 in
/-- The FIRST point: whatever the scratch held, the body starts from the zero state and leaves the block of outputs and the state after the block. -/
theorem run_first (c : Dev nD) (i : grid0.Coords) (arg1 : Memref sig .tc .vmem S64x16x512 .bf16) (harg1 : arg1.IsWhole) (arg2 : Memref sig .tc .vmem S512x2048 .bf16) (harg2 : arg2.IsWhole) (arg3 : Memref sig .tc .vmem S512x2048 .fp8e4m3) (harg3 : arg3.IsWhole) (arg4 : Memref sig .tc .vmem S1x2048 .f32) (harg4 : arg4.IsWhole) (arg5 : Memref sig .tc .vmem S64x16x512 .f32) (harg5 : arg5.IsWhole) (arg6 : Memref sig .tc .vmem S1x16x512 .f32) (harg6 : arg6.IsWhole) (arg7 : Memref sig .tc .vmem S1x16x512 .f32) (harg7 : arg7.IsWhole) (arg8 : Memref sig .tc .vmem S64x16x2048 .f32) (harg8 : arg8.IsWhole) (arg9 : Memref sig .tc .vmem S16x512 .f32) (harg9 : arg9.IsWhole) (arg10 : Memref sig .tc .vmem S16x512 .f32) (harg10 : arg10.IsWhole) (hf : isFirst i) (hl : ¬isLast i)
    (x : Vec F S64x16x512 .bf16) (wih : Vec F S512x2048 .bf16) (whh : Vec F S512x2048 .fp8e4m3) (b : Vec F S1x2048 .f32)
    (E : Set ℕ) (K : PUnit → sProp 𝕄) :
    iprop(owns (c : Thread nD τ) arg1 fullShare x ∗ owns (c : Thread nD τ) arg2 fullShare wih ∗ owns (c : Thread nD τ) arg3 fullShare whh ∗ owns (c : Thread nD τ) arg4 fullShare b
        ∗ (∃ d, owns (c : Thread nD τ) arg5 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x ∗ owns (c : Thread nD τ) arg2 fullShare wih ∗ owns (c : Thread nD τ) arg3 fullShare whh ∗ owns (c : Thread nD τ) arg4 fullShare b
            ∗ owns (c : Thread nD τ) arg5 fullShare (blockOut x wih whh b start) ∗ (∃ d, owns (c : Thread nD τ) arg8 fullShare d)
            ∗ owns (c : Thread nD τ) arg9 fullShare (blockEnd x wih whh b start).1 ∗ owns (c : Thread nD τ) arg10 fullShare (blockEnd x wih whh b start).2) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part2_eq_skeleton]
  unfold owns
  iintro ⟨⟨%f1, %h1, H1⟩, ⟨%f2, %h2, H2⟩, ⟨%f3, %h3, H3⟩, ⟨%f4, %h4, H4⟩, ⟨%d5, %f5, -, H5⟩, ⟨%d8, %f8, -, H8⟩, ⟨%d9, %f9, -, H9⟩, ⟨%d10, %f10, -, H10⟩, HK⟩
  sl_exec (disch := first | sl_exact hf | sl_exact hl)
  sl_step
  sl_unfold_words
  simp only [whole_x, whole_wih, whole_b, whole_s, put_xw, cov_s, trips_lit, h1, h2, h3, h4]
  iapply HK
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact read_stored_all arg5.view _ x wih whh b start
  isplitl [H8]
  · iexists _; iexists _; isplitr [H8]; swap; · iexact H8
    ipureintro; exact rfl
  isplitl [H9]
  · iexists _; isplitr [H9]; swap; · iexact H9
    ipureintro; exact (put_s arg9.view _ _ _ _).trans (kept_h x wih whh b start)
  iexists _; isplitr [H10]; swap; · iexact H10
  ipureintro; exact (put_s arg10.view _ _ _ _).trans (kept_c x wih whh b start)

set_option maxHeartbeats 1000000 in
/-- The LAST point: entered with state `s` in the scratch, the body leaves the block of outputs and the state after the block,
    in the scratch and in the two final outputs. -/
theorem run_last (c : Dev nD) (i : grid0.Coords) (arg1 : Memref sig .tc .vmem S64x16x512 .bf16) (harg1 : arg1.IsWhole) (arg2 : Memref sig .tc .vmem S512x2048 .bf16) (harg2 : arg2.IsWhole) (arg3 : Memref sig .tc .vmem S512x2048 .fp8e4m3) (harg3 : arg3.IsWhole) (arg4 : Memref sig .tc .vmem S1x2048 .f32) (harg4 : arg4.IsWhole) (arg5 : Memref sig .tc .vmem S64x16x512 .f32) (harg5 : arg5.IsWhole) (arg6 : Memref sig .tc .vmem S1x16x512 .f32) (harg6 : arg6.IsWhole) (arg7 : Memref sig .tc .vmem S1x16x512 .f32) (harg7 : arg7.IsWhole) (arg8 : Memref sig .tc .vmem S64x16x2048 .f32) (harg8 : arg8.IsWhole) (arg9 : Memref sig .tc .vmem S16x512 .f32) (harg9 : arg9.IsWhole) (arg10 : Memref sig .tc .vmem S16x512 .f32) (harg10 : arg10.IsWhole) (hf : ¬isFirst i) (hl : isLast i)
    (x : Vec F S64x16x512 .bf16) (wih : Vec F S512x2048 .bf16) (whh : Vec F S512x2048 .fp8e4m3) (b : Vec F S1x2048 .f32) (s : Carry F)
    (E : Set ℕ) (K : PUnit → sProp 𝕄) :
    iprop(owns (c : Thread nD τ) arg1 fullShare x ∗ owns (c : Thread nD τ) arg2 fullShare wih ∗ owns (c : Thread nD τ) arg3 fullShare whh ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x ∗ owns (c : Thread nD τ) arg2 fullShare wih ∗ owns (c : Thread nD τ) arg3 fullShare whh ∗ owns (c : Thread nD τ) arg4 fullShare b
            ∗ owns (c : Thread nD τ) arg5 fullShare (blockOut x wih whh b s)
            ∗ owns (c : Thread nD τ) arg6 fullShare (k0_pay1 (blockEnd x wih whh b s).1) ∗ owns (c : Thread nD τ) arg7 fullShare (k0_pay2 (blockEnd x wih whh b s).2) ∗ (∃ d, owns (c : Thread nD τ) arg8 fullShare d)
            ∗ owns (c : Thread nD τ) arg9 fullShare (blockEnd x wih whh b s).1 ∗ owns (c : Thread nD τ) arg10 fullShare (blockEnd x wih whh b s).2) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part2_eq_skeleton]
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%f9, %h9, H9⟩, ⟨%f10, %h10, H10⟩, HK⟩
  sl_exec (disch := first | sl_exact hf | sl_exact hl)
  sl_step
  sl_unfold_words
  simp only [whole_x, whole_wih, whole_b, whole_s, put_xw, trips_lit, h1, h2, h3, h4, h9, h10]
  iapply HK
  isplitl [H1]
  · iexists _; isplitr [H1]; swap; · iexact H1
    ipureintro; exact h1
  isplitl [H2]
  · iexists _; isplitr [H2]; swap; · iexact H2
    ipureintro; exact h2
  isplitl [H3]
  · iexists _; isplitr [H3]; swap; · iexact H3
    ipureintro; exact h3
  isplitl [H4]
  · iexists _; isplitr [H4]; swap; · iexact H4
    ipureintro; exact h4
  isplitl [H5]
  · iexists _; isplitr [H5]; swap; · iexact H5
    ipureintro; exact read_stored_all arg5.view _ x wih whh b s
  isplitl [H6]
  · iexists _; isplitr [H6]; swap; · iexact H6
    ipureintro; exact put_out arg6.view _ _ _ _
  isplitl [H7]
  · iexists _; isplitr [H7]; swap; · iexact H7
    ipureintro; exact put_out arg7.view _ _ _ _
  isplitl [H8]
  · iexists _; iexists _; isplitr [H8]; swap; · iexact H8
    ipureintro; exact rfl
  isplitl [H9]
  · iexists _; isplitr [H9]; swap; · iexact H9
    ipureintro; exact (put_s arg9.view _ _ _ _).trans (kept_h x wih whh b s)
  iexists _; isplitr [H10]; swap; · iexact H10
  ipureintro; exact (put_s arg10.view _ _ _ _).trans (kept_c x wih whh b s)

end Cert.KernelIdeal.Lstm
-- ==== Proof.Run.lean ====
module

public import proofs.«01_k».proof.Proof.Body
public import Idealize.ShloMosaic.Lib.Pipeline.Value

/-!
# The kernel's run: eight blocks of 64 time steps

The state the scratch carries from grid point to grid point, what every window holds, and the run of @main: it ends
with every semaphore counter at zero, the arguments unchanged, the outputs' array at the hidden states of all 512 time
steps, and the two final outputs at the state after the last one.
-/

@[expose] public section

noncomputable section

namespace Cert.KernelIdeal.Lstm

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state carried between the points -/

/-- Point `t`'s block of 64 inputs. -/
abbrev xBlock (c : Dev nD) (t : Fin cfg0.N) : Vec F S64x16x512 .bf16 := iblk m c 0 t
/-- The input weights, as point `t` reads them. -/
abbrev wihBlock (c : Dev nD) (t : Fin cfg0.N) : Vec F S512x2048 .bf16 := iblk m c 1 t
/-- The recurrent weights, as point `t` reads them. -/
abbrev whhBlock (c : Dev nD) (t : Fin cfg0.N) : Vec F S512x2048 .fp8e4m3 := iblk m c 2 t
/-- The bias row, as point `t` reads it. -/
abbrev biasBlock (c : Dev nD) (t : Fin cfg0.N) : Vec F S1x2048 .f32 := iblk m c 3 t

/-- The state a point is entered with: zero at the first one, then what the block before left. -/
def carry (c : Dev nD) : ℕ → Carry F
  | 0 => start
  | n + 1 => if h : n < cfg0.N then
      blockEnd (xBlock m c ⟨n, h⟩) (wihBlock m c ⟨n, h⟩) (whhBlock m c ⟨n, h⟩) (biasBlock m c ⟨n, h⟩) (carry c n)
    else carry c n

/-- The state after a point is the end of its block, entered at the state before it. -/
theorem carry_succ (c : Dev nD) (t : Fin cfg0.N) :
    carry m c (t.val + 1) = blockEnd (xBlock m c t) (wihBlock m c t) (whhBlock m c t) (biasBlock m c t) (carry m c t.val) := by
  rw [carry.eq_2]; exact dif_pos t.isLt

/-- The block of outputs point `t` computes. -/
def outBlock (c : Dev nD) (t : Fin cfg0.N) : Vec F S64x16x512 .f32 :=
  blockOut (xBlock m c t) (wihBlock m c t) (whhBlock m c t) (biasBlock m c t) (carry m c t.val)

/-- The first condition holds at point 0 alone. -/
theorem isFirst_iff (t : Fin cfg0.N) : isFirst (grid0.coords t) ↔ t.val = 0 := by
  have ht : t.val < 8 := Nat.lt_of_lt_of_eq t.isLt N_0
  have e0 : (grid0.coords t 0).val = t.val / 1 % 8 := Pipeline.Grid.coords_val t 0 (by decide) rfl
  have h : isFirst (grid0.coords t) ↔ t.val % 8 = 0 := by
    simp only [isFirst, e0]
    word_cmp
  rw [h]; omega

/-- The last condition holds at point 7 alone. -/
theorem isLast_iff (t : Fin cfg0.N) : isLast (grid0.coords t) ↔ t.val = 7 := by
  have ht : t.val < 8 := Nat.lt_of_lt_of_eq t.isLt N_0
  have e0 : (grid0.coords t 0).val = t.val / 1 % 8 := Pipeline.Grid.coords_val t 0 (by decide) rfl
  have h : isLast (grid0.coords t) ↔ t.val % 8 = 7 := by
    simp only [isLast, k0_cond2, e0]
    word_cmp
  rw [h]; omega

/-! ## What the pipeline holds -/

/-- The scratch for a block's projections. -/
abbrev xwScratch : Memref sig .tc .vmem S64x16x2048 .f32 := Memref.whole cc0_scratch0
/-- The scratch carrying the hidden state. -/
abbrev hScratch : Memref sig .tc .vmem S16x512 .f32 := Memref.whole cc0_scratch1
/-- The scratch carrying the cell state. -/
abbrev cScratch : Memref sig .tc .vmem S16x512 .f32 := Memref.whole cc0_scratch2

/-- The three scratch buffers, the last two at `s`, and the generator register. -/
def held (c : Dev nD) (s : Carry F) : sProp 𝕄 :=
  iprop(iprop((∃ d, owns (c : Thread nD τ) xwScratch fullShare d) ∗ owns (c : Thread nD τ) hScratch fullShare s.1
    ∗ owns (c : Thread nD τ) cScratch fullShare s.2) ∗ (∃ r, prngReg c r))

/-- The same with the state at anything: what a launch starts from and returns. -/
theorem launch_eq (c : Dev nD) :
    (Pipeline.ΦA spec0 c : sProp 𝕄)
      = iprop(iprop((∃ d, owns (c : Thread nD τ) xwScratch fullShare d) ∗ (∃ d, owns (c : Thread nD τ) hScratch fullShare d)
          ∗ (∃ d, owns (c : Thread nD τ) cScratch fullShare d)) ∗ (∃ r, prngReg c r)) := by
  unfold Pipeline.ΦA; rw [scopedRest0_eq]; simp only [xwScratch, hScratch, cScratch, owns_whole]; try rfl

/-- Before point `n`: the scratch as launched before the first one, then at the carried state. -/
def before (c : Dev nD) : ℕ → sProp 𝕄
  | 0 => Pipeline.ΦA spec0 c
  | n + 1 => held c (carry m c (n + 1))

/-- The pipeline's data: the inputs stay, each point leaves its block of outputs, and the two final outputs are the state after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
    | ⟨5, _⟩ => k0_pay1 (carry m c (t.val + 1)).1
    | ⟨6, _⟩ => k0_pay2 (carry m c (t.val + 1)).2
  Φ t := before m c t.val
  q _ := fullShare
  owed _ := 0

theorem dats_A (c : Dev nD) (w : Fin cfg0.W) : (dats m 0 c).A w = V m c (Pipeline.arrRef spec0 w) := by
  dsimp only [dats]

/-- Each input's buffer is left at its block. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
/-- The outputs' buffer is left at the point's block of outputs. -/
theorem after_4 (c : Dev nD) (t : Fin cfg0.N) : (dats m 0 c).after 4 t = outBlock m c t := by dsimp only [dats]
/-- The final outputs' buffers, where they are written, are left at the state after the point. -/
theorem after_5 (c : Dev nD) (t : Fin cfg0.N) : (dats m 0 c).after 5 t = k0_pay1 (carry m c (t.val + 1)).1 := by dsimp only [dats]
theorem after_6 (c : Dev nD) (t : Fin cfg0.N) : (dats m 0 c).after 6 t = k0_pay2 (carry m c (t.val + 1)).2 := by dsimp only [dats]

/-- Each input's buffer holds its block when a point begins. -/
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- A window that is never idle is left at what the data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- Away from the last point the final outputs are idle and not written back, -/
theorem idle_5 (t : Fin cfg0.N) (h : t.val ≠ 7) : cfg0.idle 5 (grid0.coords t) = true ∧ (cfg0.win 5).flush t = false :=
  ⟨by show (!(k0_cond2 (grid0.coords t) == 1#1)) = true
      rw [beq_eq_false_iff_ne.mpr fun e => h ((isLast_iff t).mp e)]; rfl,
    Bool.eq_false_iff.mpr fun e => h (by have := (flush0_5 t).mp e; have := Nat.lt_of_lt_of_eq t.isLt N_0; omega)⟩
theorem idle_6 (t : Fin cfg0.N) (h : t.val ≠ 7) : cfg0.idle 6 (grid0.coords t) = true ∧ (cfg0.win 6).flush t = false :=
  ⟨(idle_5 t h).1,
    Bool.eq_false_iff.mpr fun e => h (by have := (flush0_6 t).mp e; have := Nat.lt_of_lt_of_eq t.isLt N_0; omega)⟩

/-- and at the last point they are stored. -/
theorem live_5 (t : Fin cfg0.N) (h : t.val = 7) : cfg0.idle 5 (grid0.coords t) = false := by
  show (!(k0_cond2 (grid0.coords t) == 1#1)) = false
  rw [beq_iff_eq.mpr ((isLast_iff t).mpr h)]; rfl

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- Before a point that is not the first the scratch holds the carried state. -/
theorem before_pos (c : Dev nD) (t : Fin cfg0.N) (h0 : t.val ≠ 0) :
    (dats m 0 c).Φ t.castSucc = held c (carry m c t.val) := by
  show before m c t.val = _
  obtain ⟨n, hn⟩ := Nat.exists_eq_succ_of_ne_zero h0
  rw [hn]; rfl

set_option maxHeartbeats 1000000 in
/-- The body at the first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have h7 : t.val ≠ 7 := by omega
  unfold bodyPre bodyPost bodyAt0
  simp only [before_0, before_1, before_2, before_3]
  rw [show (dats m 0 c).owesAt () t.succ = (dats m 0 c).owesAt () t.castSucc from rfl,
    show (dats m 0 c).Φ t.succ = held c (carry m c (t.val + 1)) from rfl,
    leaves_live m c 0 t rfl, leaves_live m c 1 t rfl, leaves_live m c 2 t rfl, leaves_live m c 3 t rfl, leaves_live m c 4 t rfl,
    after_0, after_1, after_2, after_3, after_4, carry_succ]
  rw [(dats m 0 c).leavesExact_idle 5 t (idle_5 t h7).1 (idle_5 t h7).2, (dats m 0 c).leavesExact_idle 6 t (idle_6 t h7).1 (idle_6 t h7).2]
  rw [show (dats m 0 c).Φ t.castSucc = Pipeline.ΦA spec0 c from by show before m c t.val = _; rw [h0]; rfl, launch_eq]
  have hs : carry m c t.val = start := by rw [h0]; rfl
  unfold outBlock held
  rw [hs]
  iintro ⟨⟨⟨HS0, HS1, HS2⟩, Hg⟩, Ho, ⟨%d0, H0⟩, ⟨%d1, H1⟩, ⟨%d2, H2⟩, ⟨%d3, H3⟩, ⟨%d4, H4⟩, H5, H6⟩
  iapply (run_first c (grid0.coords t) _ _ _ _ _ _ _ _ _ _ _ _ _ _ _ _ _ _ _ _ ((isFirst_iff t).mpr h0) (fun h => absurd (h0.symm.trans ((isLast_iff t).mp h)) (by decide))
    (xBlock m c t) (wihBlock m c t) (whhBlock m c t) (biasBlock m c t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body at a point between. -/
theorem body_middle (c : Dev nD) (t : Fin cfg0.N) (h0 : t.val ≠ 0) (h7 : t.val ≠ 7) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = held c (carry m c (t.val + 1)) from rfl,
    leaves_live m c 0 t rfl, leaves_live m c 1 t rfl, leaves_live m c 2 t rfl, leaves_live m c 3 t rfl, leaves_live m c 4 t rfl,
    after_0, after_1, after_2, after_3, after_4, carry_succ]
  rw [(dats m 0 c).leavesExact_idle 5 t (idle_5 t h7).1 (idle_5 t h7).2, (dats m 0 c).leavesExact_idle 6 t (idle_6 t h7).1 (idle_6 t h7).2]
  rw [before_pos m c t h0]
  unfold outBlock held
  iintro ⟨⟨⟨HS0, HS1, HS2⟩, Hg⟩, Ho, ⟨%d0, H0⟩, ⟨%d1, H1⟩, ⟨%d2, H2⟩, ⟨%d3, H3⟩, ⟨%d4, H4⟩, H5, H6⟩
  iapply (run_middle c (grid0.coords t) _ _ _ _ _ _ _ _ _ _ _ _ _ _ _ _ _ _ _ _ (fun h => h0 ((isFirst_iff t).mp h)) (fun h => h7 ((isLast_iff t).mp h))
    (xBlock m c t) (wihBlock m c t) (whhBlock m c t) (biasBlock m c t) (carry m c t.val) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body at the last point. -/
theorem body_last (c : Dev nD) (t : Fin cfg0.N) (h7 : t.val = 7) :
    bodyPre m c t ⊢ wp frame (wpE (defs₀ (F := F)) Variants.none c none) Set.univ (bodyAt0 t) (fun _ => bodyPost m c t) := by
  have h0 : t.val ≠ 0 := by omega
  unfold bodyPre bodyPost bodyAt0
  simp only [before_0, before_1, before_2, before_3]
  rw [show (dats m 0 c).owesAt () t.succ = (dats m 0 c).owesAt () t.castSucc from rfl,
    show (dats m 0 c).Φ t.succ = held c (carry m c (t.val + 1)) from rfl,
    leaves_live m c 0 t rfl, leaves_live m c 1 t rfl, leaves_live m c 2 t rfl, leaves_live m c 3 t rfl, leaves_live m c 4 t rfl,
    after_0, after_1, after_2, after_3, after_4, carry_succ]
  rw [leaves_live m c 5 t (live_5 t h7), leaves_live m c 6 t (live_5 t h7), after_5, after_6, carry_succ]
  rw [before_pos m c t h0]
  unfold outBlock held
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run_last c (grid0.coords t) _ _ _ _ _ _ _ _ _ _ _ _ _ _ _ _ _ _ _ _ (fun h => h0 ((isFirst_iff t).mp h)) ((isLast_iff t).mpr h7)
    (xBlock m c t) (wihBlock m c t) (whhBlock m c t) (biasBlock m c t) (carry m c t.val) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`. -/
theorem row_eq (t : Fin cfg0.N) : defs₀ (F := F) .tc cfg0.body (cfg0.bodyArgs t (cfg0.slots t)) = bodyAt0 t := by
  unfold defs₀; rw [Defs.onTc_tc]

/-- The body does at every point what the data says. -/
theorem obligation (c : Dev nD) : BodyObligation (dats (F := F) m 0 c) (defs₀ (F := F)) Variants.none () Set.univ := fun t => by
  rw [bigSep_W0, bigSep_W0, row_eq]
  refine triple_restated (?_ : bodyPre m c t ⊢ wp _ _ _ (bodyAt0 t) fun _ => bodyPost m c t) rfl .rfl fun _ => .rfl
  by_cases h0 : t.val = 0
  · exact body_first m c t h0
  by_cases h7 : t.val = 7
  · exact body_last m c t h7
  exact body_middle m c t h0 h7

/-- The launch gives what is held before the first point, -/
theorem hin (c : Dev nD) : Pipeline.ΦA spec0 c ⊢ (dats m 0 c).Φ 0 := .rfl

/-- and gets back what is held after the last one, its contents forgotten. -/
theorem hout (c : Dev nD) : (dats m 0 c).Φ (Fin.last cfg0.N) ⊢ Pipeline.ΦA spec0 c := by
  rw [show (dats m 0 c).Φ (Fin.last cfg0.N) = held c (carry m c 8) from by
    show before m c (Fin.last cfg0.N).val = _
    rw [Fin.val_last, show cfg0.N = 8 from N_0]; rfl, launch_eq]
  unfold held
  iintro ⟨⟨HS0, HS1, HS2⟩, Hg⟩
  isplitl [HS0 HS1 HS2]
  · isplitl [HS0]; · iexact HS0
    isplitl [HS1]; · iexists _; iexact HS1
    iexists _; iexact HS2
  iexact Hg

set_option backward.isDefEq.respectTransparency.types false in
/-- The run of @main: the arrays at what the write-backs leave, every counter at zero. -/
theorem run_arrays : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := hin m) (hout := hout m)

end Cert.KernelIdeal.Lstm
-- ==== Proof.Arrays.lean ====
module

public import proofs.«01_k».proof.Proof.Run
public import Idealize.ShloMosaic.Lib.Claim

/-!
# What the run leaves in the three results

The eight write-backs of the outputs' window tile its array; the final outputs' windows are written back once, after
the last point. So every result is read off the carried states.
-/

@[expose] public section

noncomputable section

namespace Cert.KernelIdeal.Lstm

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (m : (ℓ : Loc nD τ sig) → Buf (Elt F) ℓ) (ρ : Dev nD → PrngReg)

/-- The grid point whose block holds time step `n`. -/
def pointOf (n : Fin 512) : Fin cfg0.N := ⟨n.val / 64, by rw [show cfg0.N = 8 from N_0]; omega⟩

/-- Time step `n`'s place in its block. -/
def rowOf (n : Fin 512) : Fin 64 := ⟨n.val % 64, Nat.mod_lt _ (by decide)⟩

/-- All outputs: time step `n`'s row is its row of the block that holds it. -/
def ys (c : Dev nD) : S512x16x512.Idx → Elt F .f32 :=
  fun y => outBlock m c (pointOf (y 0)) (ix3 (rowOf (y 0)) (y 1) (y 2))

/-- Where the windows that move have their block at point `t`. -/
theorem index_0 (t : Fin cfg0.N) : win0_0.index t 0 = t.val ∧ win0_0.index t 1 = 0 ∧ win0_0.index t 2 = 0 := by
  rcases fin_N0 t with rfl | rfl | rfl | rfl | rfl | rfl | rfl | rfl <;> decide
theorem index_4 (t : Fin cfg0.N) : win0_4.index t 0 = t.val ∧ win0_4.index t 1 = 0 ∧ win0_4.index t 2 = 0 := by
  rcases fin_N0 t with rfl | rfl | rfl | rfl | rfl | rfl | rfl | rfl <;> decide

/-- Row `j` of point `t`'s block is time step `64 t + j`. -/
def stepAt (t : Fin cfg0.N) (j : Fin 64) : Fin 512 :=
  ⟨64 * t.val + j.val, by have := Nat.lt_of_lt_of_eq t.isLt N_0; omega⟩

theorem pointOf_stepAt (t : Fin cfg0.N) (j : Fin 64) : pointOf (stepAt t j) = t :=
  Fin.ext (by show (64 * t.val + j.val) / 64 = t.val; omega)

theorem rowOf_stepAt (t : Fin cfg0.N) (j : Fin 64) : rowOf (stepAt t j) = j :=
  Fin.ext (by show (64 * t.val + j.val) % 64 = j.val; omega)

theorem stepAt_pointOf (n : Fin 512) : stepAt (pointOf n) (rowOf n) = n :=
  Fin.ext (by show 64 * (n.val / 64) + n.val % 64 = n.val; omega)

/-- Where the outputs' window has element `j` of its block at point `t`, in the array. -/
theorem place_4 (t : Fin cfg0.N) (j : S64x16x512.Idx) :
    (((cfg0.win 4).blk t).view.emb j : S512x16x512.Idx) = ix3 (stepAt t (j 0)) (j 1) (j 2) := by
  funext a
  apply Fin.ext
  obtain ⟨h0, h1, h2⟩ := index_4 t
  match a with
  | ⟨0, _⟩ => show win0_4.index t 0 * 64 + 1 * (j 0).val = 64 * t.val + (j 0).val; rw [h0]; omega
  | ⟨1, _⟩ => show win0_4.index t 1 * 16 + 1 * (j 1).val = (j 1).val; rw [h1]; omega
  | ⟨2, _⟩ => show win0_4.index t 2 * 512 + 1 * (j 2).val = (j 2).val; rw [h2]; omega

/-- `ys` at a place of point `t`'s block is the point's block of outputs there. -/
theorem ys_block (c : Dev nD) (t : Fin cfg0.N) (a : Fin 64) (b : Fin 16) (d : Fin 512) :
    ys m c (ix3 (stepAt t a) b d) = outBlock m c t (ix3 a b d) := by
  show outBlock m c (pointOf (stepAt t a)) (ix3 (rowOf (stepAt t a)) b d) = _
  rw [pointOf_stepAt, rowOf_stepAt]

/-- Each write-back of the outputs' window writes its block of `ys`. -/
theorem flushed_ys (c : Dev nD) (t : Fin cfg0.N) (hf : (cfg0.win 4).flush t = true) :
    (dats m 0 c).flushed 4 t = ((cfg0.win 4).blk t).view.read (Elt F) (ys m c) := by
  show (cfg0.win 4).cut (grid0.coords t) ((dats m 0 c).after 4 t) = _
  rw [after_4]
  funext j
  rw [View.read_apply]
  exact (congrArg (outBlock m c t) (eq_ix3 (n0 := 64) (n1 := 16) (n2 := 512) j)).trans
    ((ys_block m c t (j 0) (j 1) (j 2)).symm.trans (congrArg (ys m c) (place_4 t j).symm))

/-- Every place of the outputs' array lies in the block of the point that computes it. -/
theorem covered_4 (a : Fin 512) (b : Fin 16) (d : Fin 512) :
    (ix3 a b d : S512x16x512.Idx) ∈ ((cfg0.win 4).blk (pointOf a)).view.set := by
  have he := place_4 (pointOf a) (ix3 (rowOf a) b d)
  rw [show ((ix3 (rowOf a) b d : S64x16x512.Idx) 0) = rowOf a from rfl, stepAt_pointOf] at he
  exact he ▸ View.emb_mem_set _ _

/-- So the outputs' array ends holding `ys`: the eight blocks cover it. -/
theorem final_ys (c : Dev nD) : (dats m 0 c).arrAt 4 cfg0.N = ys m c :=
  (dats m 0 c).arrAt_eq_of_cover 4 (ys m c) (flushed_ys m c) fun i =>
    ⟨pointOf (i 0), flush0_4 _, (eq_ix3 (n0 := 512) (n1 := 16) (n2 := 512) i).symm ▸ covered_4 (i 0) (i 1) (i 2)⟩

/-- The one write-back of the final hidden state writes all of its array. -/
theorem flushed_h (c : Dev nD) (t : Fin cfg0.N) (hf : (cfg0.win 5).flush t = true) :
    (dats m 0 c).flushed 5 t = ((cfg0.win 5).blk t).view.read (Elt F) (k0_pay1 (carry m c 8).1) := by
  have h7 : t.val = 7 := by have := (flush0_5 t).mp hf; have := Nat.lt_of_lt_of_eq t.isLt N_0; omega
  show (cfg0.win 5).cut (grid0.coords t) ((dats m 0 c).after 5 t) = _
  rw [after_5, h7]
  have hz : (fun a => win0_5.index t a * main_v7_1.ty.shape.size a) = fun _ => 0 := funext fun a => by fin_cases a <;> exact Nat.zero_mul _
  exact (Memref.read_access_unit_zero (Elt F) main_v7_1 hz (fun a => by rw [congrFun hz a]; simp) (k0_pay1 (carry m c 8).1)).symm

/-- The one write-back of the final cell state writes all of its array. -/
theorem flushed_c (c : Dev nD) (t : Fin cfg0.N) (hf : (cfg0.win 6).flush t = true) :
    (dats m 0 c).flushed 6 t = ((cfg0.win 6).blk t).view.read (Elt F) (k0_pay2 (carry m c 8).2) := by
  have h7 : t.val = 7 := by have := (flush0_6 t).mp hf; have := Nat.lt_of_lt_of_eq t.isLt N_0; omega
  show (cfg0.win 6).cut (grid0.coords t) ((dats m 0 c).after 6 t) = _
  rw [after_6, h7]
  have hz : (fun a => win0_6.index t a * main_v7_2.ty.shape.size a) = fun _ => 0 := funext fun a => by fin_cases a <;> exact Nat.zero_mul _
  exact (Memref.read_access_unit_zero (Elt F) main_v7_2 hz (fun a => by rw [congrFun hz a]; simp) (k0_pay2 (carry m c 8).2)).symm

/-- The last point's block of a final output is all of it. -/
theorem whole_5 (i : S1x16x512.Idx) : i ∈ ((cfg0.win 5).blk t0_7).view.set := by
  have he : ((cfg0.win 5).blk t0_7).view.emb i = i := by
    funext a
    apply Fin.ext
    match a with
    | ⟨0, _⟩ => show 0 * 1 + 1 * (i 0).val = (i 0).val; omega
    | ⟨1, _⟩ => show 0 * 16 + 1 * (i 1).val = (i 1).val; omega
    | ⟨2, _⟩ => show 0 * 512 + 1 * (i 2).val = (i 2).val; omega
  exact he ▸ View.emb_mem_set _ _
theorem whole_6 (i : S1x16x512.Idx) : i ∈ ((cfg0.win 6).blk t0_7).view.set := by
  have he : ((cfg0.win 6).blk t0_7).view.emb i = i := by
    funext a
    apply Fin.ext
    match a with
    | ⟨0, _⟩ => show 0 * 1 + 1 * (i 0).val = (i 0).val; omega
    | ⟨1, _⟩ => show 0 * 16 + 1 * (i 1).val = (i 1).val; omega
    | ⟨2, _⟩ => show 0 * 512 + 1 * (i 2).val = (i 2).val; omega
  exact he ▸ View.emb_mem_set _ _

/-- So the final hidden state's array ends at the state after the last point, -/
theorem final_h (c : Dev nD) : (dats m 0 c).arrAt 5 cfg0.N = k0_pay1 (carry m c 8).1 :=
  (dats m 0 c).arrAt_eq_of_cover 5 (k0_pay1 (carry m c 8).1) (flushed_h m c) fun i =>
    ⟨t0_7, (flush0_5 t0_7).mpr rfl, whole_5 i⟩

/-- and so does the final cell state's. -/
theorem final_c (c : Dev nD) : (dats m 0 c).arrAt 6 cfg0.N = k0_pay2 (carry m c 8).2 :=
  (dats m 0 c).arrAt_eq_of_cover 6 (k0_pay2 (carry m c 8).2) (flushed_c m c) fun i =>
    ⟨t0_7, (flush0_6 t0_7).mpr rfl, whole_6 i⟩

/-- THE RUN: @main ends with the three results at `ys` and at the state after the last point, the arguments unchanged and
    every semaphore counter at zero. -/
theorem run : θ_run defs (onTc (τ := τ) (main (F := F))) ⟨m, fun _ => 0, ρ⟩ (fun r => (∀ c : Dev nD,
      r.2.mem ((c.tc : Thread nD τ).loc main_v7_0) = ys m c
      ∧ r.2.mem ((c.tc : Thread nD τ).loc main_v7_1) = k0_pay1 (carry m c 8).1
      ∧ r.2.mem ((c.tc : Thread nD τ).loc main_v7_2) = k0_pay2 (carry m c 8).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h =>
    ⟨fun c => ⟨((h.1.1 c).1 4).trans (final_ys m c), ((h.1.1 c).1 5).trans (final_h m c), ((h.1.1 c).1 6).trans (final_c m c), h.2 c⟩, h.1.2⟩)
    (θ_run_and (run_arrays m ρ) (frame_of m ρ (dats m) (dats_A m) ((θ_run defs _ _).mono (fun _ h => h.1) (run_arrays m ρ))))

end Cert.KernelIdeal.Lstm
-- ==== Proof.Same.lean ====
module

public import proofs.«01_k».proof.Proof.Arrays
public import proofs.«01_k».proof.Proof.Gen.Kernel
public import proofs.«01_k».proof.Defs

/-!
# The kernel as given runs like the kernel over the reals

The two programs are one text, so what is proved of the second at any number format holds of the first.
-/

@[expose] public section

noncomputable section
namespace Cert.Same

open Idealize.ShloMosaic Idealize.SL.Sem

variable {F : FTy → Type} [FloatOps F]

/-- The two programs have the same kernel body, -/
theorem rows_eq : Cert.Kernel.defs₀ (F := F) = Cert.KernelIdeal.defs₀ (F := F) := by
  unfold Cert.Kernel.defs₀ Cert.KernelIdeal.defs₀
  congr 1
  funext l a
  match l, a with
  | 0, (t, s) => rfl

/-- so the same body table. -/
theorem defs_eq : Cert.Kernel.defs (F := F) = Cert.KernelIdeal.defs (F := F) := by
  unfold Cert.Kernel.defs Cert.KernelIdeal.defs
  rw [rows_eq]
  rfl

/-- The kernel as given runs to the end with its arguments unchanged and every semaphore counter at zero. -/
theorem quiescent : Cert.quiescent_Kernel := fun m ρ _ => by
  rw [defs_eq]
  exact (θ_run _ _ _).mono (fun _ h => ⟨fun c => (h.1 c).2.2.2, h.2⟩) (Cert.KernelIdeal.Lstm.run (F := Bits) m ρ)

end Cert.Same
-- ==== Proof.Recurrence.lean ====
module

public import Idealize.ShloMosaic.Lib.Pointwise.Tactic

/-!
# The recurrence both programs compute, over the extended reals

A long short-term memory layer of 512 time steps on 16 sequences with 512 features: at a step the four gates are an affine
function of the step's inputs and of the hidden state, the new cell state is `σ(f) · c + σ(i) · tanh g`, and the new hidden
state is `σ(o) · tanh c'`. This module states that recurrence by coordinates, and the one law of the logistic function that
the kernel uses: `1/2 · tanh(v/2) + 1/2 = 1 / (1 + e⁻ᵛ)`, at the two infinities too.
-/

@[expose] public section

noncomputable section

namespace Cert.Recurrence

open Idealize.ShloMosaic

/-- The pattern of the 32-bit float one half denotes one half. -/
theorem half : Ideal.ofBits .f32 0x3F000000#32 = ((1 / 2 : ℝ) : EReal) := by
  simp [Ideal.ofBits, Ideal.ieee]
  norm_num [Nat.shiftRight_eq_div_pow]
  rw [← EReal.coe_mul]
  norm_num

/-- Over the reals, half the hyperbolic tangent of half the argument plus a half is the logistic function. -/
theorem real_logistic (r : ℝ) : 1 / 2 * Real.tanh (1 / 2 * r) + 1 / 2 = 1 * (1 + Real.exp (-r))⁻¹ := by
  have hp := Real.exp_pos (1 / 2 * r)
  have hn := Real.exp_pos (-(1 / 2 * r))
  have h1 : Real.exp (1 / 2 * r) * Real.exp (-(1 / 2 * r)) = 1 := by rw [← Real.exp_add]; simp
  have h2 : Real.exp (-r) = Real.exp (-(1 / 2 * r)) * Real.exp (-(1 / 2 * r)) := by rw [← Real.exp_add]; ring_nf
  rw [Real.tanh_eq_sinh_div_cosh, Real.sinh_eq, Real.cosh_eq, h2]
  generalize Real.exp (1 / 2 * r) = p at *
  generalize Real.exp (-(1 / 2 * r)) = n at *
  have h3 : p + n ≠ 0 := by linarith
  have h4 : 1 + n * n ≠ 0 := by nlinarith
  field_simp
  linear_combination (2 * n) * h1

/-- At every extended real, half the hyperbolic tangent of half the argument plus a half is the logistic function. -/
theorem logistic_eq (v : EReal) :
    ((1 / 2 : ℝ) : EReal) * Ideal.tanh (((1 / 2 : ℝ) : EReal) * v) + ((1 / 2 : ℝ) : EReal) = Ideal.div 1 (1 + Ideal.exp (-v)) := by
  have hh : (0 : ℝ) < 1 / 2 := by norm_num
  induction v with
  | bot =>
    rw [EReal.coe_mul_bot_of_pos hh]
    show ((1 / 2 : ℝ) : EReal) * ((-1 : ℝ) : EReal) + ((1 / 2 : ℝ) : EReal) = Ideal.div 1 (1 + ⊤)
    rw [← EReal.coe_mul, ← EReal.coe_add]
    have ht : (1 : EReal) + ⊤ = ⊤ := rfl
    rw [ht]
    norm_num [Ideal.div]
  | top =>
    rw [EReal.coe_mul_top_of_pos hh]
    show ((1 / 2 : ℝ) : EReal) * ((1 : ℝ) : EReal) + ((1 / 2 : ℝ) : EReal) = Ideal.div 1 (1 + 0)
    rw [← EReal.coe_mul, ← EReal.coe_add]
    norm_num [Ideal.div]
  | coe r =>
    rw [← EReal.coe_mul]
    show ((1 / 2 : ℝ) : EReal) * ((Real.tanh (1 / 2 * r) : ℝ) : EReal) + ((1 / 2 : ℝ) : EReal)
      = Ideal.div ((1 : ℝ) : EReal) (((1 : ℝ) : EReal) + ((Real.exp (-r) : ℝ) : EReal))
    have hd : (1 : ℝ) + Real.exp (-r) ≠ 0 := by have := Real.exp_pos (-r); linarith
    rw [← EReal.coe_mul, ← EReal.coe_add, ← EReal.coe_add, Ideal.div, if_neg (by exact_mod_cast hd), ← EReal.coe_inv,
      ← EReal.coe_mul, real_logistic]

/-- The layer's inputs by coordinates: the sequences (time, sequence, feature), the two weight matrices (gate, feature) and the two biases. -/
structure Inputs where
  x : Fin 512 → Fin 16 → Fin 512 → EReal
  wih : Fin 2048 → Fin 512 → EReal
  whh : Fin 2048 → Fin 512 → EReal
  bih : Fin 2048 → EReal
  bhh : Fin 2048 → EReal

/-- The hidden state and the cell state of the 16 sequences. -/
structure State where
  h : Fin 16 → Fin 512 → EReal
  c : Fin 16 → Fin 512 → EReal

/-- Column `o + d` of the 2048 gate columns. -/
def col (o : ℕ) (d : Fin 512) (ho : o ≤ 1536 := by decide) : Fin 2048 := ⟨o + d.val, by omega⟩

/-- The new cell entry of a row of gates `g` and the old cell entry. -/
def cell (g : Fin 2048 → EReal) (c : EReal) (d : Fin 512) : EReal :=
  Ideal.div 1 (1 + Ideal.exp (-g (col 512 d))) * c + Ideal.div 1 (1 + Ideal.exp (-g (col 0 d))) * Ideal.tanh (g (col 1024 d))

/-- The new hidden entry of a row of gates `g` and the old cell entry. -/
def hidden (g : Fin 2048 → EReal) (c : EReal) (d : Fin 512) : EReal :=
  Ideal.div 1 (1 + Ideal.exp (-g (col 1536 d))) * Ideal.tanh (cell g c d)

namespace Inputs

variable (A : Inputs)

/-- The inputs' part of a gate with both biases: `x(t) · W_ihᵀ + (b_ih + b_hh)`. -/
def proj (t : Fin 512) (i : Fin 16) (j : Fin 2048) : EReal := (∑ k, A.x t i k * A.wih j k) + (A.bih j + A.bhh j)

/-- A gate before its nonlinearity: the inputs' part plus `h · W_hhᵀ`. -/
def gate (t : Fin 512) (h : Fin 16 → Fin 512 → EReal) (i : Fin 16) (j : Fin 2048) : EReal :=
  A.proj t i j + ∑ k, h i k * A.whh j k

/-- The gate with the summands in the textbook's order: both products first, then the two biases. -/
theorem gate_eq (t : Fin 512) (h : Fin 16 → Fin 512 → EReal) (i : Fin 16) (j : Fin 2048) :
    (∑ k, A.x t i k * A.wih j k) + (∑ k, h i k * A.whh j k) + A.bih j + A.bhh j = A.gate t h i j := by
  unfold gate proj
  rw [add_assoc, add_right_comm]

/-- One time step of the layer. -/
def next (t : Fin 512) (s : State) : State where
  h i d := hidden (A.gate t s.h i) (s.c i d) d
  c i d := cell (A.gate t s.h i) (s.c i d) d

/-- The state after `n` time steps, from the zero state; past the last time step it stays. -/
def after : ℕ → State
  | 0 => ⟨fun _ _ => 0, fun _ _ => 0⟩
  | n + 1 => if h : n < 512 then A.next ⟨n, h⟩ (after n) else after n

/-- The state after a time step is one step on from the state before it. -/
theorem after_succ (n : Fin 512) : A.after (n.val + 1) = A.next n (A.after n.val) := by
  rw [after, dif_pos n.isLt]

/-- The first result by coordinates: the hidden state after every time step. -/
def outputs : (⟨3, ![512, 16, 512]⟩ : Shape).Idx → EReal := fun y => (A.after ((y 0).val + 1)).h (y 1) (y 2)
/-- The second result by coordinates: the hidden state after the last time step. -/
def lastHidden : (⟨3, ![1, 16, 512]⟩ : Shape).Idx → EReal := fun y => (A.after 512).h (y 1) (y 2)
/-- The third result by coordinates: the cell state after the last time step. -/
def lastCell : (⟨3, ![1, 16, 512]⟩ : Shape).Idx → EReal := fun y => (A.after 512).c (y 1) (y 2)

end Inputs

end Cert.Recurrence
-- ==== Proof.Reference.lean ====
module

public import proofs.«01_k».proof.Defs
public import proofs.«01_k».proof.Proof.Recurrence
public import proofs.«01_k».proof.Proof.Gen.ReferenceIdeal
public import proofs.«01_k».proof.Proof.Gen.ReferenceIdeal.Run
public import Idealize.ShloMosaic.Lib.StackMember
public import Idealize.ShloMosaic.Lib.ValueLayout
public import Idealize.ShloMosaic.Lib.Quiescent

/-!
# The reference computes the recurrence

The reference is one host loop of 512 trips. One trip on the loop's carried buffers is a step of the recurrence; after 512
trips the carried buffers hold its states.
-/

@[expose] public section

noncomputable section

namespace Cert.ReferenceIdeal.Lstm

open Cert.ReferenceIdeal Cert.ReferenceIdeal.Gen Cert.ReferenceIdeal.Value Cert.Recurrence
open Idealize.ShloMosaic hiding ix1 ix2 ix3 eq_ix2 eq_ix3
open Idealize.ShloMosaic.TcCoe Idealize.ShloMosaic.ValueIdx Idealize.ShloMosaic.StackMember
open Idealize.ShloMosaic.StableHlo
open Idealize.SL.Sem

/-- What a valuation holds in the loop's carried buffers, each at its literal type: the sequences. -/
abbrev bx (V : Valuation τ sig (Elt Ideal)) : S512x16x512.Idx → EReal := V (Proc.devRef .tc main_v3_0)
/-- The inputs' weights. -/
abbrev bwih (V : Valuation τ sig (Elt Ideal)) : S2048x512.Idx → EReal := V (Proc.devRef .tc main_v3_1)
/-- The recurrent weights. -/
abbrev bwhh (V : Valuation τ sig (Elt Ideal)) : S2048x512.Idx → EReal := V (Proc.devRef .tc main_v3_2)
/-- The inputs' bias. -/
abbrev bbih (V : Valuation τ sig (Elt Ideal)) : S2048.Idx → EReal := V (Proc.devRef .tc main_v3_3)
/-- The recurrent bias. -/
abbrev bbhh (V : Valuation τ sig (Elt Ideal)) : S2048.Idx → EReal := V (Proc.devRef .tc main_v3_4)
/-- The counter. -/
abbrev bn (V : Valuation τ sig (Elt Ideal)) : S_.Idx → BitVec 32 := V (Proc.devRef .tc main_v3_5)
/-- The hidden state. -/
abbrev bh (V : Valuation τ sig (Elt Ideal)) : S16x512.Idx → EReal := V (Proc.devRef .tc main_v3_6)
/-- The cell state. -/
abbrev bc (V : Valuation τ sig (Elt Ideal)) : S16x512.Idx → EReal := V (Proc.devRef .tc main_v3_7)
/-- The outputs. -/
abbrev bys (V : Valuation τ sig (Elt Ideal)) : S512x16x512.Idx → EReal := V (Proc.devRef .tc main_v3_8)

/-- The carried buffers before trip `n` of the loop: the inputs, the counter at `n`, the recurrence's state after `n` steps, and as the first `n` rows of the outputs the hidden states after each of the first `n` steps. -/
structure Before (A : Inputs) (V : Valuation τ sig (Elt Ideal)) (n : ℕ) : Prop where
  x : ∀ t i k, bx V (ix3 t i k) = A.x t i k
  wih : ∀ j k, bwih V (ix2 j k) = A.wih j k
  whh : ∀ j k, bwhh V (ix2 j k) = A.whh j k
  bih : ∀ j, bbih V (ix1 j) = A.bih j
  bhh : ∀ j, bbhh V (ix1 j) = A.bhh j
  ctr : bn V = fun _ => BitVec.ofNat 32 n
  h : ∀ i d, bh V (ix2 i d) = (A.after n).h i d
  c : ∀ i d, bc V (ix2 i d) = (A.after n).c i d
  ys : ∀ (t : Fin 512) i d, t.val < n → bys V (ix3 t i d) = (A.after (t.val + 1)).h i d

/-- A counter below 512 reads as itself. -/
theorem counter_toInt {n : ℕ} (h : n < 512) : (BitVec.ofNat 32 n).toInt = n := by
  rw [BitVec.toInt_eq_toNat_of_lt] <;> simp <;> omega

/-- A time step's slab of the sequences, read as a matrix. -/
theorem slice_apply (X : S512x16x512.Idx → EReal) (t : Fin 512) (i : Fin 16) (k : Fin 512) (st : Fin 3 → Int)
    (h0 : st 0 = t.val) (h1 : st 1 = 0) (h2 : st 2 = 0) :
    shapeCast S16x512 (Host.dynamicSlice S1x16x512 X st sliceFits_S512x16x512_S1x16x512) shapeCasts_S1x16x512_S16x512 (ix2 i k)
      = X (ix3 t i k) := by
  refine (shapeCast_1ab_ab_apply _ _ i k).trans ?_
  rw [Host.dynamicSlice_apply]
  refine congrArg X ?_
  have e0 := Host.clampedStart_of_le (s := S512x16x512) (t := S1x16x512) rfl st 0 t.val h0 (by have := t.isLt; show t.val + 1 ≤ 512; omega)
  have e1 := Host.clampedStart_of_le (s := S512x16x512) (t := S1x16x512) rfl st 1 0 h1 (by decide)
  have e2 := Host.clampedStart_of_le (s := S512x16x512) (t := S1x16x512) rfl st 2 0 h2 (by decide)
  funext a
  apply Fin.ext
  match a with
  | ⟨0, _⟩ => exact (congrArg (· + 0) e0).trans rfl
  | ⟨1, _⟩ => exact (congrArg (· + i.val) e1).trans (Nat.zero_add _)
  | ⟨2, _⟩ => exact (congrArg (· + k.val) e2).trans (Nat.zero_add _)

/-- The outputs with one time step's row written: that row at its time, the old rows elsewhere. -/
theorem update_apply (Y : S512x16x512.Idx → EReal) (U : S1x16x512.Idx → EReal) (t : Fin 512) (st : Fin 3 → Int)
    (h0 : st 0 = t.val) (h1 : st 1 = 0) (h2 : st 2 = 0) (r : Fin 512) (i : Fin 16) (d : Fin 512) :
    Host.dynamicUpdateSlice Y U st updateFits_S512x16x512_S1x16x512 (ix3 r i d)
      = if r = t then U (ix3 0 i d) else Y (ix3 r i d) := by
  have e0 := Host.clampedStart_of_le (s := S512x16x512) (t := S1x16x512) rfl st 0 t.val h0 (by have := t.isLt; show t.val + 1 ≤ 512; omega)
  have e1 := Host.clampedStart_of_le (s := S512x16x512) (t := S1x16x512) rfl st 1 0 h1 (by decide)
  have e2 := Host.clampedStart_of_le (s := S512x16x512) (t := S1x16x512) rfl st 2 0 h2 (by decide)
  rw [Host.dynamicUpdateSlice_apply]
  by_cases hr : r = t
  · rw [if_pos hr, dif_pos]
    · refine congrArg U ?_
      funext a
      apply Fin.ext
      match a with
      | ⟨0, _⟩ => exact (congrArg (r.val - ·) e0).trans (by rw [hr]; exact Nat.sub_self _)
      | ⟨1, _⟩ => exact (congrArg (i.val - ·) e1).trans (Nat.sub_zero _)
      | ⟨2, _⟩ => exact (congrArg (d.val - ·) e2).trans (Nat.sub_zero _)
    · intro a
      match a with
      | ⟨0, _⟩ => exact ⟨(e0.trans (congrArg Fin.val hr.symm)).le, by rw [show (⟨0, _⟩ : Fin 3) = 0 from rfl, e0, ← hr]; exact Nat.lt_succ_self _⟩
      | ⟨1, _⟩ => exact ⟨e1.le.trans (Nat.zero_le _), by rw [show (⟨1, _⟩ : Fin 3) = 1 from rfl, e1]; exact (Nat.zero_add 16).symm ▸ i.isLt⟩
      | ⟨2, _⟩ => exact ⟨e2.le.trans (Nat.zero_le _), by rw [show (⟨2, _⟩ : Fin 3) = 2 from rfl, e2]; exact (Nat.zero_add 512).symm ▸ d.isLt⟩
  · rw [if_neg hr, dif_neg]
    intro hin
    have h := hin 0
    rw [e0] at h
    exact hr (Fin.ext (Nat.le_antisymm (Nat.lt_succ_iff.mp h.2) h.1))

/-- A bias spread over the 16 rows holds its own entry in every row. -/
theorem bias_apply (b : S2048.Idx → EReal) (i : Fin 16) (j : Fin 2048) :
    broadcastInDim S16x2048 ![0, 1] bcast_S1x2048_S16x2048_0_1 (broadcastInDim S1x2048 ![1] bcast_S2048_S1x2048_1 b) (ix2 i j)
      = b (ix1 j) := by
  refine (broadcastInDim_apply _ _ _ _ (ix2 0 j) ?_).trans (broadcastInDim_apply _ _ _ _ (ix1 j) ?_)
  · intro a
    match a with
    | ⟨0, _⟩ => exact (if_pos rfl).symm
    | ⟨1, _⟩ => exact (if_neg (show ¬ (2048 : ℕ) = 1 by decide)).symm
  · intro a
    match a with
    | ⟨0, _⟩ => exact (if_neg (show ¬ (2048 : ℕ) = 1 by decide)).symm

/-- A splat of one holds one everywhere. -/
theorem one_apply (y : S16x512.Idx) :
    (broadcastInDim S16x512 ![] bcast_S_S16x512 (constant S_ .f32 0x3F800000#32) : FVec Ideal S16x512 .f32) y = (1 : EReal) :=
  Ideal.ofBits_one_f32

/-- The reference's spelling of the logistic function on the gate columns from `o` on. -/
theorem logistic_apply (G : FVec Ideal S16x2048 .f32) (o : ℕ) (ho : o ≤ 1536) (hs : S16x2048.Slices ![0, o] S16x512) (i : Fin 16) (d : Fin 512) :
    (Host.divf (broadcastInDim S16x512 ![] bcast_S_S16x512 (constant S_ .f32 0x3F800000#32)) (addf (broadcastInDim S16x512 ![] bcast_S_S16x512 (constant S_ .f32 0x3F800000#32)) (Host.exp (Host.negf (extractStridedSlice S16x512 ![0, o] G hs)))) : FVec Ideal S16x512 .f32) (ix2 i d)
      = Ideal.div 1 (1 + Ideal.exp (-(G (ix2 i (col o d ho)) : EReal))) :=
  congrArg₂ Ideal.div (one_apply _) (congrArg₂ (· + ·) (one_apply _)
    (congrArg (fun v : EReal => Ideal.exp (-v)) (slice2_axis1_apply o G hs i d (col o d ho) rfl)))

/-- A matrix as the only member of a stack reads as itself. -/
theorem row_apply (X : S16x512.Idx → EReal) (r : Fin 1) (i : Fin 16) (d : Fin 512) :
    broadcastInDim S1x16x512 ![1, 2] bcast_S16x512_S1x16x512_1_2 X (ix3 r i d) = X (ix2 i d) :=
  broadcastInDim_apply _ _ _ _ (ix2 i d) fun a => match a with
    | ⟨0, _⟩ => (if_neg (show ¬ (16 : ℕ) = 1 by decide)).symm
    | ⟨1, _⟩ => (if_neg (show ¬ (512 : ℕ) = 1 by decide)).symm

/-- The gates a trip computes are the recurrence's. -/
theorem gates_apply {A : Inputs} {V : Valuation τ sig (Elt Ideal)} (n : Fin 512) (B : Before A V n.val) (i : Fin 16) (j : Fin 2048) :
    (res_main_while0b_v17 V : S16x2048.Idx → EReal) (ix2 i j) = A.gate n (A.after n.val).h i j := by
  rw [← A.gate_eq]
  unfold res_main_while0b_v17
  have h1 := fun (X : FVec Ideal S16x512 .f32) (hX : ∀ k, X (ix2 i k) = A.x n i k) => (dotGeneral_plain_apply (m := 16) (k := 512) (n := 2048) (φ₁ := .f32) (φ₂ := .f32) none X (transpose S512x2048 [1, 0] (bwih V) transposes_S2048x512_S512x2048_1_0) i j).trans
    (Finset.sum_congr rfl fun k _ => congrArg₂ (· * ·) (hX k) ((transpose_ix2_apply (bwih V) _ k j).trans (B.wih j k)))
  have h2 := (dotGeneral_plain_apply (m := 16) (k := 512) (n := 2048) (φ₁ := .f32) (φ₂ := .f32) none (bh V) (transpose S512x2048 [1, 0] (bwhh V) transposes_S2048x512_S512x2048_1_0) i j).trans
    (Finset.sum_congr rfl fun k _ => congrArg₂ (· * ·) (B.h i k) ((transpose_ix2_apply (bwhh V) _ k j).trans (B.whh j k)))
  refine congrArg₂ (· + ·) (congrArg₂ (· + ·) (congrArg₂ (· + ·) (h1 _ fun k => ?_) h2)
    ((bias_apply (bbih V) i j).trans (B.bih j))) ((bias_apply (bbhh V) i j).trans (B.bhh j))
  exact (slice_apply (bx V) n i k _ (by show (bn V _).toInt = _; rw [B.ctr]; exact counter_toInt n.isLt) rfl rfl).trans (B.x n i k)

/-- The cell state a trip computes is the recurrence's. -/
theorem cell_apply {A : Inputs} {V : Valuation τ sig (Elt Ideal)} (n : Fin 512) (B : Before A V n.val) (i : Fin 16) (d : Fin 512) :
    (res_main_while0b_v43 V : S16x512.Idx → EReal) (ix2 i d) = (A.next n (A.after n.val)).c i d := by
  unfold res_main_while0b_v43
  have hg : A.gate n (A.after n.val).h i = fun j => (res_main_while0b_v17 V : S16x2048.Idx → EReal) (ix2 i j) :=
    funext fun j => (gates_apply n B i j).symm
  show _ = cell (A.gate n (A.after n.val).h i) ((A.after n.val).c i d) d
  rw [hg]
  exact congrArg₂ (· + ·)
    (congrArg₂ (· * ·) (logistic_apply _ 512 (by decide) _ i d) (B.c i d))
    (congrArg₂ (· * ·) (logistic_apply _ 0 (by decide) _ i d)
      (congrArg Ideal.tanh (slice2_axis1_apply 1024 _ _ i d (col 1024 d) rfl)))

/-- The hidden state a trip computes is the recurrence's. -/
theorem hidden_apply {A : Inputs} {V : Valuation τ sig (Elt Ideal)} (n : Fin 512) (B : Before A V n.val) (i : Fin 16) (d : Fin 512) :
    (res_main_while0b_v45 V : S16x512.Idx → EReal) (ix2 i d) = (A.next n (A.after n.val)).h i d := by
  unfold res_main_while0b_v45
  show _ = Ideal.div 1 (1 + Ideal.exp (-A.gate n (A.after n.val).h i (col 1536 d))) * Ideal.tanh ((A.next n (A.after n.val)).c i d)
  rw [← cell_apply n B, ← gates_apply n B]
  exact congrArg₂ (· * ·) (logistic_apply _ 1536 (by decide) _ i d) rfl

/-- Where a trip's slab starts: the counter on the time axis, zero on the others. -/
def startOf (V : Valuation τ sig (Elt Ideal)) : Fin 3 → Int := fun k =>
  ((![bn V, constantI S_ 32 0#32, constantI S_ 32 0#32] : Fin 3 → (⟨S_, .i32⟩ : BufTy).Contents (Elt Ideal)) k (Shape.Idx.first h_S_)).toInt

/-- The outputs after a trip: the old ones with the trip's hidden state written at the counter. -/
theorem stored_eq (V : Valuation τ sig (Elt Ideal)) :
    bys (STEP V) = Host.dynamicUpdateSlice (bys V) (broadcastInDim S1x16x512 ![1, 2] bcast_S16x512_S1x16x512_1_2 (res_main_while0b_v45 V : S16x512.Idx → EReal))
      (startOf V) updateFits_S512x16x512_S1x16x512 := by
  refine (STEP_main_v3_8 V).trans ?_
  unfold step_main_v3_8
  rw [id_eq]
  rfl

/-- A trip takes the loop's carried buffers from before it to before the next one. -/
theorem before_step {A : Inputs} {V : Valuation τ sig (Elt Ideal)} (n : Fin 512) (B : Before A V n.val) :
    Before A (STEP V) (n.val + 1) where
  x := by have e : bx (STEP V) = bx V := STEP_main_v3_0 V; rw [e]; exact B.x
  wih := by have e : bwih (STEP V) = bwih V := STEP_main_v3_1 V; rw [e]; exact B.wih
  whh := by have e : bwhh (STEP V) = bwhh V := STEP_main_v3_2 V; rw [e]; exact B.whh
  bih := by have e : bbih (STEP V) = bbih V := STEP_main_v3_3 V; rw [e]; exact B.bih
  bhh := by have e : bbhh (STEP V) = bbhh V := STEP_main_v3_4 V; rw [e]; exact B.bhh
  ctr := by
    have e : bn (STEP V) = fun y => bn V y + 1#32 := STEP_main_v3_5 V
    rw [e, B.ctr]
    funext _
    exact (BitVec.ofNat_add n.val 1).symm
  h i d := by
    have e : bh (STEP V) = res_main_while0b_v45 V := STEP_main_v3_6 V
    rw [e, A.after_succ]
    exact hidden_apply n B i d
  c i d := by
    have e : bc (STEP V) = res_main_while0b_v43 V := STEP_main_v3_7 V
    rw [e, A.after_succ]
    exact cell_apply n B i d
  ys t i d ht := by
    have h0 : (bn V (Shape.Idx.first h_S_)).toInt = n.val := by rw [B.ctr]; exact counter_toInt n.isLt
    refine (congrFun (stored_eq V) (ix3 t i d)).trans ?_
    refine (update_apply (bys V) _ n (startOf V) h0 rfl rfl t i d).trans ?_
    by_cases htn : t = n
    · rw [if_pos htn, htn, A.after_succ]
      exact (row_apply _ _ i d).trans (hidden_apply n B i d)
    · rw [if_neg htn]
      exact B.ys t i d (by have : t.val ≠ n.val := fun h => htn (Fin.ext h); omega)

/-- The launch's arguments by coordinates. -/
def inputs (m : (ℓ : Loc nD τ sig) → Buf (Elt Ideal) ℓ) (c : Dev nD) : Inputs where
  x t i k := (m ((c.tc : Thread nD τ).loc main_arg0) : S512x16x512.Idx → EReal) (ix3 t i k)
  wih j k := (m ((c.tc : Thread nD τ).loc main_arg1) : S2048x512.Idx → EReal) (ix2 j k)
  whh j k := (m ((c.tc : Thread nD τ).loc main_arg2) : S2048x512.Idx → EReal) (ix2 j k)
  bih j := (m ((c.tc : Thread nD τ).loc main_arg3) : S2048.Idx → EReal) (ix1 j)
  bhh j := (m ((c.tc : Thread nD τ).loc main_arg4) : S2048.Idx → EReal) (ix1 j)

variable (m : (ℓ : Loc nD τ sig) → Buf (Elt Ideal) ℓ)

/-- The loop is entered with the arguments, the counter at zero, and zero states. -/
theorem before_entry (c : Dev nD) : Before (inputs m c) (entryContents preI m c) 0 := by
  have e0 : bx (entryContents preI m c) = m ((c.tc : Thread nD τ).loc main_arg0) := by
    simp only [bx, entryContents, preI, afterL_cons, afterL_nil]; after_results; rfl
  have e1 : bwih (entryContents preI m c) = m ((c.tc : Thread nD τ).loc main_arg1) := by
    simp only [bwih, entryContents, preI, afterL_cons, afterL_nil]; after_results; rfl
  have e2 : bwhh (entryContents preI m c) = m ((c.tc : Thread nD τ).loc main_arg2) := by
    simp only [bwhh, entryContents, preI, afterL_cons, afterL_nil]; after_results; rfl
  have e3 : bbih (entryContents preI m c) = m ((c.tc : Thread nD τ).loc main_arg3) := by
    simp only [bbih, entryContents, preI, afterL_cons, afterL_nil]; after_results; rfl
  have e4 : bbhh (entryContents preI m c) = m ((c.tc : Thread nD τ).loc main_arg4) := by
    simp only [bbhh, entryContents, preI, afterL_cons, afterL_nil]; after_results; rfl
  have e6 : bh (entryContents preI m c) = fun _ => 0 := by
    simp only [bh, entryContents, preI, afterL_cons, afterL_nil]; after_results
    funext _; exact Ideal.ofBits_zero_f32
  have e7 : bc (entryContents preI m c) = fun _ => 0 := by
    simp only [bc, entryContents, preI, afterL_cons, afterL_nil]; after_results
    funext _; exact Ideal.ofBits_zero_f32
  exact {
    x := fun t i k => congrFun e0 _
    wih := fun j k => congrFun e1 _
    whh := fun j k => congrFun e2 _
    bih := fun j => congrFun e3 _
    bhh := fun j => congrFun e4 _
    ctr := ctr_entry m c
    h := fun i d => congrFun e6 _
    c := fun i d => congrFun e7 _
    ys := fun t i d h => absurd h (Nat.not_lt_zero _) }

/-- The carried buffers before every trip, and after the last. -/
theorem before_all (c : Dev nD) : ∀ n, n ≤ 512 → Before (inputs m c) (STEP^[n] (entryContents preI m c)) n
  | 0, _ => before_entry m c
  | n + 1, h => by
    rw [Function.iterate_succ_apply']
    exact before_step ⟨n, h⟩ (before_all c n (by omega))

/-- Read at every place: after the last trip the outputs' buffer, -/
theorem outputs_eq {A : Inputs} {V : Valuation τ sig (Elt Ideal)} (B : Before A V 512) : V (Proc.devRef .tc main_v3_8) = A.outputs := by
  show bys V = A.outputs
  funext y
  obtain ⟨t, i, d, rfl⟩ : ∃ (t : Fin 512) (i : Fin 16) (d : Fin 512), y = ix3 t i d := ⟨y 0, y 1, y 2, eq_ix3 (n0 := 512) y⟩
  exact B.ys t i d t.isLt

/-- the hidden state's, -/
theorem lastHidden_eq {A : Inputs} {V : Valuation τ sig (Elt Ideal)} (B : Before A V 512) : out_main_v4 V = A.lastHidden := by
  funext y
  obtain ⟨t, i, d, rfl⟩ : ∃ (t : Fin 1) (i : Fin 16) (d : Fin 512), y = ix3 t i d := ⟨y 0, y 1, y 2, eq_ix3 (n0 := 1) y⟩
  exact (row_apply (bh V) t i d).trans (B.h i d)

/-- and the cell state's hold the recurrence's values. -/
theorem lastCell_eq {A : Inputs} {V : Valuation τ sig (Elt Ideal)} (B : Before A V 512) : out_main_v5 V = A.lastCell := by
  funext y
  obtain ⟨t, i, d, rfl⟩ : ∃ (t : Fin 1) (i : Fin 16) (d : Fin 512), y = ix3 t i d := ⟨y 0, y 1, y 2, eq_ix3 (n0 := 1) y⟩
  exact (row_apply (bc V) t i d).trans (B.c i d)

/-- The reference runs to the end with the recurrence's values in its results, its arguments unchanged and every semaphore counter at zero. -/
theorem run (ρ : Dev nD → PrngReg) : θ_run (defs (F := Ideal)) (onTc (τ := τ) (main (F := Ideal))) ⟨m, fun _ => 0, ρ⟩ fun r =>
    (∀ c : Dev nD, r.2.mem ((c.tc : Thread nD τ).loc main_v3_8) = (inputs m c).outputs
      ∧ r.2.mem ((c.tc : Thread nD τ).loc main_v4) = (inputs m c).lastHidden
      ∧ r.2.mem ((c.tc : Thread nD τ).loc main_v5) = (inputs m c).lastCell
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun r h => ⟨fun c =>
      ⟨(h c).1.trans (outputs_eq (before_all m c 512 le_rfl)), (h c).2.1.trans (lastHidden_eq (before_all m c 512 le_rfl)),
        (h c).2.2.1.trans (lastCell_eq (before_all m c 512 le_rfl)), (h c).2.2.2⟩,
    sem_eq_zero_of_no_sems (by decide) r.2⟩) (Cert.ReferenceIdeal.Value.run m ρ)

/-- The reference runs to the end with its arguments unchanged and every semaphore counter at zero. -/
theorem quiescent : Cert.quiescent_ReferenceIdeal := fun m ρ _ =>
  (θ_run _ _ _).mono (fun _ h => ⟨fun c => (h.1 c).2.2.2, h.2⟩) (run m ρ)

end Cert.ReferenceIdeal.Lstm
-- ==== Proof.Steps.lean ====
module

public import proofs.«01_k».proof.Proof.Arrays
public import proofs.«01_k».proof.Proof.Recurrence
public import Idealize.ShloMosaic.Lib.StackMember
public import Idealize.ShloMosaic.Lib.ValueLayout
public import Idealize.ShloMosaic.Lib.KernelVsHost

/-!
# The kernel computes the recurrence

Over the extended reals the changes of format are the identity, a block's product of its 1024 rows with the input weights is
the product row by row, and the half-angle form of the logistic function is the logistic function. So a trip of the kernel's
loop is a step of the recurrence, and the state carried through the eight blocks is the recurrence's state after every 64
time steps.
-/

@[expose] public section

noncomputable section

namespace Cert.KernelIdeal.Lstm

open Cert.KernelIdeal Cert.KernelIdeal.Gen Cert.Recurrence
open Idealize.ShloMosaic hiding ix1 ix2 ix3 eq_ix2 eq_ix3
open Idealize.ShloMosaic.TcCoe Idealize.ShloMosaic.ValueIdx Idealize.ShloMosaic.StackMember Idealize.ShloMosaic.Tactic
open Idealize.ShloMosaic.StableHlo
open Idealize.SL.Sem

/-! ## One trip -/

/-- A block's projections: row by row the product with the input weights, plus the bias row. -/
theorem proj_apply (x : FVec Ideal S64x16x512 .bf16) (w : FVec Ideal S512x2048 .bf16) (b : FVec Ideal S1x2048 .f32)
    (a : Fin 64) (i : Fin 16) (j : Fin 2048) :
    (k0_pay9 (F := Ideal) x w b) (ix3 a i j)
      = (∑ k : Fin 512, (x (ix3 a i k) : EReal) * w (ix2 k j)) + b (ix2 0 j) := by
  unfold k0_pay9
  simp only [shapeCast_self]
  rw [matmul_zero_eq_dotGeneral]
  have hr : a.val * 16 + i.val < 1024 := by omega
  refine congrArg₂ (· + ·) ?_ ?_
  · refine (shapeCast_apply _ _ _ (ix2 ⟨a.val * 16 + i.val, hr⟩ j) ?_).trans ?_
    · rw [Shape.rowMajor_val_three, Shape.rowMajor_val_two]; rfl
    refine (dotGeneral_plain_apply (m := 1024) (k := 512) (n := 2048) none _ w ⟨a.val * 16 + i.val, hr⟩ j).trans ?_
    refine Finset.sum_congr rfl fun k _ => congrArg (· * _) (shapeCast_apply _ _ _ (ix3 a i k) ?_)
    rw [Shape.rowMajor_val_three, Shape.rowMajor_val_two]; rfl
  · refine (broadcastTo_apply _ _ _ (ix3 0 0 j) ?_).trans (shapeCast_apply _ _ _ (ix2 0 j) ?_)
    · intro c
      match c with
      | ⟨0, _⟩ => rfl
      | ⟨1, _⟩ => rfl
      | ⟨2, _⟩ => rfl
    · rw [Shape.rowMajor_val_three, Shape.rowMajor_val_two]; rfl

/-- A time step's slab is its row of the projections. -/
theorem slab_apply (xw : FVec Ideal S64x16x2048 .f32) (k : Fin k0_t1_loop.trips) (i : Fin 16) (j : Fin 2048) :
    slab (F := Ideal) xw k (ix3 0 i j) = xw (ix3 ⟨k.val, Nat.lt_of_lt_of_eq k.isLt trips_eq⟩ i j) := by
  unfold slab VecWindow.window
  refine congrArg xw (funext fun a => Fin.ext ?_)
  have h := k0_off1_eq k
  match a with
  | ⟨0, _⟩ => show k0_off1 k 0 + 1 * 0 = k.val; rw [h]; rfl
  | ⟨1, _⟩ => show k0_off1 k 1 + 1 * i.val = i.val; rw [h]; show 0 + 1 * i.val = i.val; omega
  | ⟨2, _⟩ => show k0_off1 k 2 + 1 * j.val = j.val; rw [h]; show 0 + 1 * j.val = j.val; omega

/-- The gates of a trip: the slab plus the product of the hidden state with the recurrent weights. -/
theorem gates_apply (h : FVec Ideal S16x512 .f32) (v : FVec Ideal S1x16x2048 .f32) (w : FVec Ideal S512x2048 .fp8e4m3) (i : Fin 16) (j : Fin 2048) :
    (k0_pay3 (F := Ideal) h v w) (ix2 i j) = v (ix3 0 i j) + ∑ k : Fin 512, (h (ix2 i k) : EReal) * w (ix2 k j) := by
  unfold k0_pay3
  simp only [shapeCast_self]
  rw [matmul_zero_eq_dotGeneral]
  exact congrArg₂ (· + ·) (shapeCast_1ab_ab_apply v _ i j) (dotGeneral_plain_apply (m := 16) (k := 512) (n := 2048) none h w i j)

/-- The kernel's spelling of the logistic function on the gate columns from `o` on. -/
theorem logistic_apply (G : FVec Ideal S16x2048 .f32) (o : ℕ) (ho : o ≤ 1536) (hs : S16x2048.Slices ![0, o] S16x512) (i : Fin 16) (d : Fin 512) :
    (addf (mulf (broadcast S16x512 (Scalar.ofBits .f32 0x3F000000#32)) (tanh (mulf (broadcast S16x512 (Scalar.ofBits .f32 0x3F000000#32)) (extractStridedSlice S16x512 ![0, o] G hs)))) (broadcast S16x512 (Scalar.ofBits .f32 0x3F000000#32)) : FVec Ideal S16x512 .f32) (ix2 i d)
      = Ideal.div 1 (1 + Ideal.exp (-(G (ix2 i (col o d ho)) : EReal))) := by
  rw [← logistic_eq, ← half]
  exact congrArg (fun v : EReal => Ideal.ofBits .f32 0x3F000000#32 * Ideal.tanh (Ideal.ofBits .f32 0x3F000000#32 * v) + Ideal.ofBits .f32 0x3F000000#32)
    (slice2_axis1_apply o G hs i d (col o d ho) rfl)

/-- The new cell state of a trip. -/
theorem cell_apply (h c : FVec Ideal S16x512 .f32) (v : FVec Ideal S1x16x2048 .f32) (w : FVec Ideal S512x2048 .fp8e4m3) (i : Fin 16) (d : Fin 512) :
    (k0_pay4 (F := Ideal) h c v w) (ix2 i d) = cell (fun j => (k0_pay3 (F := Ideal) h v w) (ix2 i j)) (c (ix2 i d)) d :=
  congrArg₂ (· + ·)
    (congrArg (· * _) (logistic_apply (k0_pay3 (F := Ideal) h v w) 512 (by decide) slices_S16x2048_o0_512_S16x512 i d))
    (congrArg₂ (· * ·) (logistic_apply (k0_pay3 (F := Ideal) h v w) 0 (by decide) slices_S16x2048_o0_0_S16x512 i d)
      (congrArg Ideal.tanh (slice2_axis1_apply 1024 (k0_pay3 (F := Ideal) h v w) slices_S16x2048_o0_1024_S16x512 i d (col 1024 d) rfl)))

/-- The new hidden state of a trip. -/
theorem hidden_apply (h c : FVec Ideal S16x512 .f32) (v : FVec Ideal S1x16x2048 .f32) (w : FVec Ideal S512x2048 .fp8e4m3) (i : Fin 16) (d : Fin 512) :
    (k0_pay5 (F := Ideal) h c v w) (ix2 i d) = hidden (fun j => (k0_pay3 (F := Ideal) h v w) (ix2 i j)) (c (ix2 i d)) d :=
  congrArg₂ (· * ·) (logistic_apply (k0_pay3 (F := Ideal) h v w) 1536 (by decide) slices_S16x2048_o0_1536_S16x512 i d)
    (congrArg Ideal.tanh (cell_apply h c v w i d))

/-- A pair of arrays holds a state of the recurrence. -/
structure Holds (s : Carry Ideal) (r : State) : Prop where
  h : ∀ i d, (s.1 (ix2 i d) : EReal) = r.h i d
  c : ∀ i d, (s.2 (ix2 i d) : EReal) = r.c i d

/-- The gates of a trip on a slab that is the recurrence's projection are the recurrence's gates. -/
theorem gates_hold (A : Inputs) (n : Fin 512) (whh : FVec Ideal S512x2048 .fp8e4m3) (v : FVec Ideal S1x16x2048 .f32)
    (h : FVec Ideal S16x512 .f32) (rh : Fin 16 → Fin 512 → EReal) (i : Fin 16)
    (hw : ∀ j k, (whh (ix2 k j) : EReal) = A.whh j k) (hv : ∀ j, (v (ix3 0 i j) : EReal) = A.proj n i j)
    (hh : ∀ k, (h (ix2 i k) : EReal) = rh i k) :
    (fun j => (k0_pay3 (F := Ideal) h v whh) (ix2 i j)) = A.gate n rh i := by
  funext j
  refine (gates_apply h v whh i j).trans ?_
  unfold Inputs.gate
  exact congrArg₂ (· + ·) (hv j) (Finset.sum_congr rfl fun k _ => congrArg₂ (· * ·) (hh k) (hw j k))

/-- A trip on a block whose projections and weights are the recurrence's is a step of the recurrence. -/
theorem step_holds (A : Inputs) (n : Fin 512) (whh : FVec Ideal S512x2048 .fp8e4m3) (xw : FVec Ideal S64x16x2048 .f32)
    (k : Fin k0_t1_loop.trips) (s : Carry Ideal) (r : State)
    (hw : ∀ j k, (whh (ix2 k j) : EReal) = A.whh j k)
    (hx : ∀ i j, (xw (ix3 ⟨k.val, Nat.lt_of_lt_of_eq k.isLt trips_eq⟩ i j) : EReal) = A.proj n i j)
    (H : Holds s r) : Holds (step (F := Ideal) whh xw k s) (A.next n r) := by
  have hg := fun i => gates_hold A n whh (slab (F := Ideal) xw k) s.1 r.h i hw
    (fun j => (slab_apply xw k i j).trans (hx i j)) (H.h i)
  unfold step
  generalize slab (F := Ideal) xw k = v at hg ⊢
  exact ⟨fun i d => (hidden_apply s.1 s.2 v whh i d).trans (congrArg₂ (hidden · · d) (hg i) (H.c i d)),
    fun i d => (cell_apply s.1 s.2 v whh i d).trans (congrArg₂ (cell · · d) (hg i) (H.c i d))⟩

/-- The state after `k` trips of the block of time steps from `64 t` on. -/
theorem states_holds (A : Inputs) (t : Fin cfg0.N) (whh : FVec Ideal S512x2048 .fp8e4m3) (xw : FVec Ideal S64x16x2048 .f32)
    (s : Carry Ideal) (hw : ∀ j k, (whh (ix2 k j) : EReal) = A.whh j k)
    (hx : ∀ a i j, (xw (ix3 a i j) : EReal) = A.proj (stepAt t a) i j) (H : Holds s (A.after (64 * t.val))) :
    ∀ k : ℕ, k ≤ 64 → Holds (states whh xw s k) (A.after (64 * t.val + k))
  | 0, _ => H
  | k + 1, hk => by
    have hk' : k < k0_t1_loop.trips := Nat.lt_of_lt_of_eq hk trips_eq.symm
    have e := states_succ whh xw s ⟨k, hk'⟩
    dsimp only at e
    rw [e]
    have e' := A.after_succ (stepAt t ⟨k, hk⟩)
    have e'' : A.after (64 * t.val + (k + 1)) = A.next (stepAt t ⟨k, hk⟩) (A.after (64 * t.val + k)) := e'
    rw [e'']
    exact step_holds A (stepAt t ⟨k, hk⟩) whh xw ⟨k, hk'⟩ _ _ hw (hx ⟨k, hk⟩)
      (states_holds A t whh xw s hw hx H k (Nat.le_of_succ_le hk))

/-! ## The blocks the points read -/

variable (m : (ℓ : Loc nD τ sig) → Buf (Elt Ideal) ℓ)

/-- The launch's arguments by coordinates. -/
def inputs (c : Dev nD) : Inputs where
  x t i k := (m ((c.tc : Thread nD τ).loc main_arg0) : S512x16x512.Idx → EReal) (ix3 t i k)
  wih j k := (m ((c.tc : Thread nD τ).loc main_arg1) : S2048x512.Idx → EReal) (ix2 j k)
  whh j k := (m ((c.tc : Thread nD τ).loc main_arg2) : S2048x512.Idx → EReal) (ix2 j k)
  bih j := (m ((c.tc : Thread nD τ).loc main_arg3) : S2048.Idx → EReal) (ix1 j)
  bhh j := (m ((c.tc : Thread nD τ).loc main_arg4) : S2048.Idx → EReal) (ix1 j)

/-- The launch is entered with the sequences as they are (their change of format is the identity), -/
theorem entry_x (c : Dev nD) (t : Fin 512) (i : Fin 16) (k : Fin 512) :
    (V m c main_v0 : S512x16x512.Idx → EReal) (ix3 t i k) = (inputs m c).x t i k := by
  unfold_abbrev_sides
  after_results
  rfl

/-- the input weights transposed, -/
theorem entry_wih (c : Dev nD) (k : Fin 512) (j : Fin 2048) :
    (V m c main_v2 : S512x2048.Idx → EReal) (ix2 k j) = (inputs m c).wih j k := by
  unfold_abbrev_sides
  after_results
  exact transpose_ix2_apply (m ((c.tc : Thread nD τ).loc main_arg1) : S2048x512.Idx → EReal) _ k j

/-- the recurrent weights transposed, -/
theorem entry_whh (c : Dev nD) (k : Fin 512) (j : Fin 2048) :
    (V m c main_v4 : S512x2048.Idx → EReal) (ix2 k j) = (inputs m c).whh j k := by
  unfold_abbrev_sides
  after_results
  exact transpose_ix2_apply (m ((c.tc : Thread nD τ).loc main_arg2) : S2048x512.Idx → EReal) _ k j

/-- and the sum of the biases as a row. -/
theorem entry_bias (c : Dev nD) (j : Fin 2048) :
    (V m c main_v6 : S1x2048.Idx → EReal) (ix2 0 j) = (inputs m c).bih j + (inputs m c).bhh j := by
  unfold_abbrev_sides
  after_results
  exact shapeCast_a_1a_apply (addf (m ((c.tc : Thread nD τ).loc main_arg3)) (m ((c.tc : Thread nD τ).loc main_arg4)) : FVec Ideal S2048 .f32) _ 0 j

/-- Point `t`'s block of inputs is its 64 time steps of the sequences. -/
theorem xBlock_apply (c : Dev nD) (t : Fin cfg0.N) (a : Fin 64) (i : Fin 16) (k : Fin 512) :
    (xBlock m c t (ix3 a i k) : EReal) = (inputs m c).x (stepAt t a) i k := by
  refine Eq.trans ?_ (entry_x m c (stepAt t a) i k)
  unfold xBlock iblk
  rw [View.read_apply]
  obtain ⟨h0, h1, h2⟩ := index_0 t
  refine congrArg (V m c main_v0 : S512x16x512.Idx → EReal) (funext fun b => Fin.ext ?_)
  match b with
  | ⟨0, _⟩ => show win0_0.index t 0 * 64 + 1 * a.val = 64 * t.val + a.val; rw [h0]; omega
  | ⟨1, _⟩ => show win0_0.index t 1 * 16 + 1 * i.val = i.val; rw [h1]; omega
  | ⟨2, _⟩ => show win0_0.index t 2 * 512 + 1 * k.val = k.val; rw [h2]; omega

/-- Every point reads the input weights whole, -/
theorem wihBlock_apply (c : Dev nD) (t : Fin cfg0.N) (k : Fin 512) (j : Fin 2048) :
    (wihBlock m c t (ix2 k j) : EReal) = (inputs m c).wih j k := by
  refine Eq.trans ?_ (entry_wih m c k j)
  unfold wihBlock iblk
  rw [View.read_apply]
  refine congrArg (V m c main_v2 : S512x2048.Idx → EReal) (funext fun b => Fin.ext ?_)
  match b with
  | ⟨0, _⟩ => show 0 * 512 + 1 * k.val = k.val; omega
  | ⟨1, _⟩ => show 0 * 2048 + 1 * j.val = j.val; omega

/-- the recurrent weights whole, -/
theorem whhBlock_apply (c : Dev nD) (t : Fin cfg0.N) (k : Fin 512) (j : Fin 2048) :
    (whhBlock m c t (ix2 k j) : EReal) = (inputs m c).whh j k := by
  refine Eq.trans ?_ (entry_whh m c k j)
  unfold whhBlock iblk
  rw [View.read_apply]
  refine congrArg (V m c main_v4 : S512x2048.Idx → EReal) (funext fun b => Fin.ext ?_)
  match b with
  | ⟨0, _⟩ => show 0 * 512 + 1 * k.val = k.val; omega
  | ⟨1, _⟩ => show 0 * 2048 + 1 * j.val = j.val; omega

/-- and the bias row whole. -/
theorem biasBlock_apply (c : Dev nD) (t : Fin cfg0.N) (j : Fin 2048) :
    (biasBlock m c t (ix2 0 j) : EReal) = (inputs m c).bih j + (inputs m c).bhh j := by
  refine Eq.trans ?_ (entry_bias m c j)
  unfold biasBlock iblk
  rw [View.read_apply]
  refine congrArg (V m c main_v6 : S1x2048.Idx → EReal) (funext fun b => Fin.ext ?_)
  match b with
  | ⟨0, _⟩ => show 0 * 1 + 1 * 0 = 0; omega
  | ⟨1, _⟩ => show 0 * 2048 + 1 * j.val = j.val; omega

/-! ## All 512 time steps -/

/-- The state inside point `t`'s block, when the point is entered at the recurrence's. -/
theorem block_holds (c : Dev nD) (t : Fin cfg0.N) (H : Holds (carry m c t.val) ((inputs m c).after (64 * t.val))) (k : ℕ) (hk : k ≤ 64) :
    Holds (states (whhBlock m c t) (k0_pay9 (xBlock m c t) (wihBlock m c t) (biasBlock m c t)) (carry m c t.val) k)
      ((inputs m c).after (64 * t.val + k)) := by
  refine states_holds (inputs m c) t _ _ _ (fun j k => whhBlock_apply m c t k j) (fun a i j => ?_) H k hk
  refine (proj_apply _ _ _ a i j).trans ?_
  unfold Inputs.proj
  exact congrArg₂ (· + ·) (Finset.sum_congr rfl fun k _ => congrArg₂ (· * ·) (xBlock_apply m c t a i k) (wihBlock_apply m c t k j))
    (biasBlock_apply m c t j)

/-- Every point is entered at the recurrence's state. -/
theorem carry_holds (c : Dev nD) : ∀ n : ℕ, n ≤ 8 → Holds (carry m c n) ((inputs m c).after (64 * n))
  | 0, _ => ⟨fun _ _ => Ideal.ofBits_zero_f32, fun _ _ => Ideal.ofBits_zero_f32⟩
  | n + 1, hn => by
    have e := carry_succ m c ⟨n, Nat.lt_of_lt_of_eq hn N_0.symm⟩
    dsimp only at e
    rw [e]
    exact block_holds m c ⟨n, Nat.lt_of_lt_of_eq hn N_0.symm⟩ (carry_holds c n (Nat.le_of_succ_le hn)) 64 le_rfl

/-- The outputs are the recurrence's hidden states, -/
theorem ys_eq (c : Dev nD) : ys m c = (inputs m c).outputs := by
  funext y
  obtain ⟨n, i, d, rfl⟩ : ∃ (n : Fin 512) (i : Fin 16) (d : Fin 512), y = ix3 n i d := ⟨y 0, y 1, y 2, eq_ix3 (n0 := 512) y⟩
  have hn : (pointOf n).val ≤ 8 := (Nat.lt_of_lt_of_eq (pointOf n).isLt N_0).le
  have hr : (rowOf n).val + 1 ≤ 64 := (rowOf n).isLt
  have H := (block_holds m c (pointOf n) (carry_holds m c (pointOf n).val hn) ((rowOf n).val + 1) hr).h i d
  have e : 64 * (pointOf n).val + ((rowOf n).val + 1) = n.val + 1 := congrArg (fun t : Fin 512 => t.val + 1) (stepAt_pointOf n)
  rw [e] at H
  exact H

/-- the final hidden state is the recurrence's, -/
theorem lastHidden_eq (c : Dev nD) : k0_pay1 (carry m c 8).1 = (inputs m c).lastHidden := by
  funext y
  obtain ⟨t, i, d, rfl⟩ : ∃ (t : Fin 1) (i : Fin 16) (d : Fin 512), y = ix3 t i d := ⟨y 0, y 1, y 2, eq_ix3 (n0 := 1) y⟩
  exact (shapeCast_ab_1ab_apply (carry m c 8).1 _ t i d).trans ((carry_holds m c 8 le_rfl).h i d)

/-- and so is the final cell state. -/
theorem lastCell_eq (c : Dev nD) : k0_pay2 (carry m c 8).2 = (inputs m c).lastCell := by
  funext y
  obtain ⟨t, i, d, rfl⟩ : ∃ (t : Fin 1) (i : Fin 16) (d : Fin 512), y = ix3 t i d := ⟨y 0, y 1, y 2, eq_ix3 (n0 := 1) y⟩
  exact (shapeCast_ab_1ab_apply (carry m c 8).2 _ t i d).trans ((carry_holds m c 8 le_rfl).c i d)

end Cert.KernelIdeal.Lstm
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Reference
public import proofs.«01_k».proof.Proof.Steps
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The idealized kernel runs to the end from every memory, leaves its arguments alone and every counter at zero. -/
theorem quiescent_kernelIdeal : Cert.quiescent_KernelIdeal := fun m ρ _ =>
  (θ_run _ _ _).mono (fun _ h => ⟨fun c => (h.1 c).2.2.2, h.2⟩) (Cert.KernelIdeal.Lstm.run (F := Ideal) m ρ)

/-- Over the extended reals the kernel and the reference end with the same outputs, final hidden state and final cell
    state: those of the recurrence on the arguments. -/
theorem algebraic : Cert.algebraic_KernelIdeal_ReferenceIdeal := by
  intro m ρ m' ρ' _ hagree
  have same : ∀ c : Dev Cert.KernelIdeal.nD, Cert.ReferenceIdeal.Lstm.inputs m' c = Cert.KernelIdeal.Lstm.inputs m c := fun c => by
    obtain ⟨h0, h1, h2, h3, h4⟩ := hagree c
    unfold Cert.ReferenceIdeal.Lstm.inputs Cert.KernelIdeal.Lstm.inputs
    rw [h0, h1, h2, h3, h4]
  refine ⟨fun c => (Cert.KernelIdeal.Lstm.inputs m c).outputs, fun c => (Cert.KernelIdeal.Lstm.inputs m c).lastHidden,
    fun c => (Cert.KernelIdeal.Lstm.inputs m c).lastCell, ?_, ?_⟩
  · refine (θ_run _ _ _).mono (fun _ h c => ?_) (Cert.KernelIdeal.Lstm.run (F := Ideal) m ρ)
    obtain ⟨h0, h1, h2, ha⟩ := h.1 c
    exact ⟨h0.trans (Cert.KernelIdeal.Lstm.ys_eq m c), h1.trans (Cert.KernelIdeal.Lstm.lastHidden_eq m c),
      h2.trans (Cert.KernelIdeal.Lstm.lastCell_eq m c), ha⟩
  · refine (θ_run _ _ _).mono (fun _ h c => ?_) (Cert.ReferenceIdeal.Lstm.run m' ρ')
    obtain ⟨h0, h1, h2, ha⟩ := h.1 c
    exact ⟨h0.trans (congrArg _ (same c)), h1.trans (congrArg _ (same c)), h2.trans (congrArg _ (same c)), ha⟩

/-- The five claims together. -/
theorem claim : Cert.Claim := ⟨Cert.Kernel.Gen.facts, Cert.KernelIdeal.Gen.facts, Cert.ReferenceIdeal.Gen.facts,
  Cert.Same.quiescent, quiescent_kernelIdeal, Cert.ReferenceIdeal.Lstm.quiescent, trivial, algebraic⟩

end Cert.Proof

end
